-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.BufferStatement Cert.KernelIdeal.S224x2x3584 Cert.KernelIdeal.S224x1x3584
  ∧ IdealRules.bf16_pair.BufferStatement Cert.KernelIdeal.S256x2x3584 Cert.KernelIdeal.S256x1x3584
  ∧ IdealRules.bf16_pair.Statement Cert.KernelIdeal.S448x128 Cert.KernelIdeal.S224x128
  ∧ IdealRules.bf16_pair.Statement Cert.KernelIdeal.S224x2x128 Cert.KernelIdeal.S224x1x128
  ∧ IdealRules.bf16_pair.Statement Cert.KernelIdeal.S512x128 Cert.KernelIdeal.S256x128
  ∧ IdealRules.bf16_pair.Statement Cert.KernelIdeal.S256x2x128 Cert.KernelIdeal.S256x1x128
  ∧ IdealRules.bf16_pair.Statement Cert.KernelIdeal.S192x2x3584 Cert.KernelIdeal.S192x1x3584
  ∧ IdealRules.bf16_pair.Statement Cert.KernelIdeal.S384x3584 Cert.KernelIdeal.S192x3584
  ∧ IdealRules.bf16_pair.Statement Cert.KernelIdeal.S256x2x3584 Cert.KernelIdeal.S256x1x3584
  ∧ IdealRules.bf16_pair.Statement Cert.KernelIdeal.S512x3584 Cert.KernelIdeal.S256x3584
  ∧ IdealRules.bf16_pair.Statement Cert.KernelIdeal.S224x2x3584 Cert.KernelIdeal.S224x1x3584
  ∧ IdealRules.bf16_pair.Statement Cert.KernelIdeal.S448x3584 Cert.KernelIdeal.S224x3584

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40_0) = v0 c
          ∧ r.2.mem ((c.tc : Thread Cert.ReferenceIdeal.nD Cert.ReferenceIdeal.τ).loc Cert.ReferenceIdeal.main_v40_1) = v1 c
          ∧ r.2.mem ((c.tc : Thread Cert.ReferenceIdeal.nD Cert.ReferenceIdeal.τ).loc Cert.ReferenceIdeal.main_v40_2) = v2 c
          ∧ r.2.mem ((c.tc : Thread Cert.ReferenceIdeal.nD Cert.ReferenceIdeal.τ).loc Cert.ReferenceIdeal.main_v40_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x15360x3584 : Shape := ⟨3, ![2, 15360, 3584]⟩
abbrev S2x15360x112 : Shape := ⟨3, ![2, 15360, 112]⟩
abbrev S448x3584 : Shape := ⟨2, ![448, 3584]⟩
abbrev S448x112 : Shape := ⟨2, ![448, 112]⟩
abbrev S384 : Shape := ⟨1, ![384]⟩
abbrev S2x15360 : Shape := ⟨2, ![2, 15360]⟩
abbrev S2x15360x384 : Shape := ⟨3, ![2, 15360, 384]⟩
abbrev S2x15360x64 : Shape := ⟨3, ![2, 15360, 64]⟩
abbrev S32 : Shape := ⟨1, ![32]⟩
abbrev S_ : Shape := ⟨0, ![]⟩
abbrev S30720x3584 : Shape := ⟨2, ![30720, 3584]⟩
abbrev S2x112x15360 : Shape := ⟨3, ![2, 112, 15360]⟩
abbrev S1x384 : Shape := ⟨2, ![1, 384]⟩
abbrev S1x32 : Shape := ⟨2, ![1, 32]⟩
abbrev S30720x384 : Shape := ⟨2, ![30720, 384]⟩
abbrev S2x64x15360 : Shape := ⟨3, ![2, 64, 15360]⟩
abbrev S240x384 : Shape := ⟨2, ![240, 384]⟩
abbrev S2x448x15360 : Shape := ⟨3, ![2, 448, 15360]⟩
abbrev S2x14x15360 : Shape := ⟨3, ![2, 14, 15360]⟩
abbrev S512x3584 : Shape := ⟨2, ![512, 3584]⟩
abbrev S1x112x512 : Shape := ⟨3, ![1, 112, 512]⟩
abbrev S2x512 : Shape := ⟨2, ![2, 512]⟩
abbrev S512x384 : Shape := ⟨2, ![512, 384]⟩
abbrev S1x64x512 : Shape := ⟨3, ![1, 64, 512]⟩
abbrev S8x384 : Shape := ⟨2, ![8, 384]⟩
abbrev S1x448x512 : Shape := ⟨3, ![1, 448, 512]⟩
abbrev S1x14x512 : Shape := ⟨3, ![1, 14, 512]⟩
abbrev S224x3584 : Shape := ⟨2, ![224, 3584]⟩
abbrev S256x3584 : Shape := ⟨2, ![256, 3584]⟩
abbrev S256x128 : Shape := ⟨2, ![256, 128]⟩
abbrev S384x128 : Shape := ⟨2, ![384, 128]⟩
abbrev S448x16 : Shape := ⟨2, ![448, 16]⟩
abbrev S448x128 : Shape := ⟨2, ![448, 128]⟩
abbrev S224x128 : Shape := ⟨2, ![224, 128]⟩
abbrev S224x128x1 : Shape := ⟨3, ![224, 128, 1]⟩
abbrev S128x384 : Shape := ⟨2, ![128, 384]⟩
abbrev S16x512 : Shape := ⟨2, ![16, 512]⟩
abbrev S112x512 : Shape := ⟨2, ![112, 512]⟩
abbrev S128x512 : Shape := ⟨2, ![128, 512]⟩
abbrev S512x128 : Shape := ⟨2, ![512, 128]⟩
abbrev S256x128x1 : Shape := ⟨3, ![256, 128, 1]⟩
abbrev S192x3584 : Shape := ⟨2, ![192, 3584]⟩
abbrev S384x3584 : Shape := ⟨2, ![384, 3584]⟩
abbrev S384x512 : Shape := ⟨2, ![384, 512]⟩
abbrev S512 : Shape := ⟨1, ![512]⟩
abbrev S1x512 : Shape := ⟨2, ![1, 512]⟩
abbrev S128x32 : Shape := ⟨2, ![128, 32]⟩
abbrev S32x128 : Shape := ⟨2, ![32, 128]⟩
abbrev S32x1 : Shape := ⟨2, ![32, 1]⟩
abbrev S32x512 : Shape := ⟨2, ![32, 512]⟩
abbrev S64x512 : Shape := ⟨2, ![64, 512]⟩
abbrev S64x128 : Shape := ⟨2, ![64, 128]⟩
abbrev S448x512 : Shape := ⟨2, ![448, 512]⟩
abbrev S252x512 : Shape := ⟨2, ![252, 512]⟩
abbrev S1x32x512 : Shape := ⟨3, ![1, 32, 512]⟩
abbrev S14x512 : Shape := ⟨2, ![14, 512]⟩
abbrev S512x448 : Shape := ⟨2, ![512, 448]⟩

abbrev nBuf : Space → Nat
  | .hbm => 34
  | .vmem => 26
  | .smem => 0
  | _ => 0

abbrev bufTy : (tb : Table) → Fin (tcTables nBuf tb) → BufTy
  | .hbm, ⟨0, _⟩ => ⟨S2x15360x3584, .fp8e4m3⟩
  | .hbm, ⟨1, _⟩ => ⟨S2x15360x112, .i8⟩
  | .hbm, ⟨2, _⟩ => ⟨S448x3584, .fp8e4m3⟩
  | .hbm, ⟨3, _⟩ => ⟨S448x112, .i8⟩
  | .hbm, ⟨4, _⟩ => ⟨S384, .f32⟩
  | .hbm, ⟨5, _⟩ => ⟨S2x15360, .i32⟩
  | .hbm, ⟨6, _⟩ => ⟨S2x15360x384, .bf16⟩
  | .hbm, ⟨7, _⟩ => ⟨S2x15360x64, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S30720x3584, .fp8e4m3⟩
  | .hbm, ⟨25, _⟩ => ⟨S2x112x15360, .i8⟩
  | .hbm, ⟨26, _⟩ => ⟨S1x384, .f32⟩
  | .hbm, ⟨27, _⟩ => ⟨S1x32, .f32⟩
  | .hbm, ⟨28, _⟩ => ⟨S30720x384, .bf16⟩
  | .hbm, ⟨29, _⟩ => ⟨S2x64x15360, .bf16⟩
  | .hbm, ⟨30, _⟩ => ⟨S30720x3584, .bf16⟩
  | .hbm, ⟨31, _⟩ => ⟨S240x384, .f32⟩
  | .hbm, ⟨32, _⟩ => ⟨S2x448x15360, .fp8e5m2⟩
  | .hbm, ⟨33, _⟩ => ⟨S2x14x15360, .i8⟩
  | .local _ .vmem, ⟨0, _⟩ => ⟨S512x3584, .fp8e4m3⟩
  | .local _ .vmem, ⟨1, _⟩ => ⟨S512x3584, .fp8e4m3⟩
  | .local _ .vmem, ⟨2, _⟩ => ⟨S1x112x512, .i8⟩
  | .local _ .vmem, ⟨3, _⟩ => ⟨S1x112x512, .i8⟩
  | .local _ .vmem, ⟨4, _⟩ => ⟨S448x3584, .fp8e4m3⟩
  | .local _ .vmem, ⟨5, _⟩ => ⟨S448x112, .i8⟩
  | .local _ .vmem, ⟨6, _⟩ => ⟨S1x384, .f32⟩
  | .local _ .vmem, ⟨7, _⟩ => ⟨S1x32, .f32⟩
  | .local _ .vmem, ⟨8, _⟩ => ⟨S2x512, .i32⟩
  | .local _ .vmem, ⟨9, _⟩ => ⟨S2x512, .i32⟩
  | .local _ .vmem, ⟨10, _⟩ => ⟨S512x384, .bf16⟩
  | .local _ .vmem, ⟨11, _⟩ => ⟨S512x384, .bf16⟩
  | .local _ .vmem, ⟨12, _⟩ => ⟨S1x64x512, .bf16⟩
  | .local _ .vmem, ⟨13, _⟩ => ⟨S1x64x512, .bf16⟩
  | .local _ .vmem, ⟨14, _⟩ => ⟨S512x3584, .bf16⟩
  | .local _ .vmem, ⟨15, _⟩ => ⟨S512x3584, .bf16⟩
  | .local _ .vmem, ⟨16, _⟩ => ⟨S8x384, .f32⟩
  | .local _ .vmem, ⟨17, _⟩ => ⟨S8x384, .f32⟩
  | .local _ .vmem, ⟨18, _⟩ => ⟨S1x448x512, .fp8e5m2⟩
  | .local _ .vmem, ⟨19, _⟩ => ⟨S1x448x512, .fp8e5m2⟩
  | .local _ .vmem, ⟨20, _⟩ => ⟨S1x14x512, .i8⟩
  | .local _ .vmem, ⟨21, _⟩ => ⟨S1x14x512, .i8⟩
  | .local _ .vmem, ⟨22, _⟩ => ⟨S224x3584, .i32⟩
  | .local _ .vmem, ⟨23, _⟩ => ⟨S256x3584, .i32⟩
  | .local _ .vmem, ⟨24, _⟩ => ⟨S256x128, .f32⟩
  | .local _ .vmem, ⟨25, _⟩ => ⟨S384x128, .f32⟩
  | _, _ => ⟨S2x15360x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [BitOps F]

abbrev grid0 : Pipeline.Grid := ⟨1, ![60], ![false]⟩

def k0_off1 (i : grid0.Coords) : Fin 2 → Nat :=
  let arg0 : BitVec 32 := BitVec.ofNat 32 (i 0).val
  let c0_i32_372 : BitVec 32 := 0#32
  let v1314 : BitVec 1 := Scalar.cmpi .sgt arg0 c0_i32_372
  let v1315 : BitVec 32 := Scalar.extui v1314
  let c0_i32_373 : BitVec 32 := 0#32
  let v1316 : BitVec 1 := Scalar.cmpi .slt arg0 c0_i32_373
  let v1317 : BitVec 32 := Scalar.extui v1316
  let v1318 : BitVec 32 := Scalar.subi v1315 v1317
  let c30_i32 : BitVec 32 := 30#32
  let c0_i32_374 : BitVec 32 := 0#32
  let v1319 : BitVec 1 := Scalar.cmpi .sgt c30_i32 c0_i32_374
  let v1320 : BitVec 32 := Scalar.extui v1319
  let c0_i32_375 : BitVec 32 := 0#32
  let v1321 : BitVec 1 := Scalar.cmpi .slt c30_i32 c0_i32_375
  let v1322 : BitVec 32 := Scalar.extui v1321
  let v1323 : BitVec 32 := Scalar.subi v1320 v1322
  let v1324 : BitVec 1 := Scalar.cmpi .ne v1318 v1323
  let v1325 : BitVec 32 := Scalar.remsi arg0 c30_i32
  let c0_i32_376 : BitVec 32 := 0#32
  let v1326 : BitVec 1 := Scalar.cmpi .ne v1325 c0_i32_376
  let v1327 : BitVec 1 := Scalar.andi v1324 v1326
  let v1313 : BitVec 32 := Scalar.divsi arg0 c30_i32
  let c1_i32_377 : BitVec 32 := 1#32
  let v1328 : BitVec 32 := Scalar.subi v1313 c1_i32_377
  let v1329 : BitVec 32 := Scalar.select v1327 v1328 v1313
  let v1330 : Index := Scalar.indexCast v1329
  let c0_378 : Index := 0#32
  ![v1330.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c30_i32 : BitVec 32 := 30#32
  let v0 : BitVec 32 := Scalar.divsi arg0 c30_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c30_i32 c0_i32_1
  let v7 : BitVec 32 := Scalar.extui v6
  let c0_i32_2 : BitVec 32 := 0#32
  let v8 : BitVec 1 := Scalar.cmpi .slt c30_i32 c0_i32_2
  let v9 : BitVec 32 := Scalar.extui v8
  let v10 : BitVec 32 := Scalar.subi v7 v9
  let v11 : BitVec 1 := Scalar.cmpi .ne v5 v10
  let v12 : BitVec 32 := Scalar.remsi arg0 c30_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c30_i32_4 : BitVec 32 := 30#32
  let c0_i32_5 : BitVec 32 := 0#32
  let v17 : BitVec 1 := Scalar.cmpi .eq c30_i32_4 c0_i32_5
  let c1_i32_6 : BitVec 32 := 1#32
  let v18 : BitVec 32 := Scalar.select v17 c1_i32_6 c30_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c30_i32 : BitVec 32 := 30#32
  let c0_i32 : BitVec 32 := 0#32
  let v0 : BitVec 1 := Scalar.cmpi .eq c30_i32 c0_i32
  let c1_i32 : BitVec 32 := 1#32
  let v1 : BitVec 32 := Scalar.select v0 c1_i32 c30_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c30_i32 : BitVec 32 := 30#32
  let v0 : BitVec 32 := Scalar.divsi arg0 c30_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c30_i32 c0_i32_1
  let v7 : BitVec 32 := Scalar.extui v6
  let c0_i32_2 : BitVec 32 := 0#32
  let v8 : BitVec 1 := Scalar.cmpi .slt c30_i32 c0_i32_2
  let v9 : BitVec 32 := Scalar.extui v8
  let v10 : BitVec 32 := Scalar.subi v7 v9
  let v11 : BitVec 1 := Scalar.cmpi .ne v5 v10
  let v12 : BitVec 32 := Scalar.remsi arg0 c30_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c30_i32_4 : BitVec 32 := 30#32
  let c0_i32_5 : BitVec 32 := 0#32
  let v17 : BitVec 1 := Scalar.cmpi .eq c30_i32_4 c0_i32_5
  let c1_i32_6 : BitVec 32 := 1#32
  let v18 : BitVec 32 := Scalar.select v17 c1_i32_6 c30_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_11 (i : grid0.Coords) : Fin 3 → Nat :=
  let arg0 : BitVec 32 := BitVec.ofNat 32 (i 0).val
  let c30_i32 : BitVec 32 := 30#32
  let v0 : BitVec 32 := Scalar.divsi arg0 c30_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c30_i32 c0_i32_1
  let v7 : BitVec 32 := Scalar.extui v6
  let c0_i32_2 : BitVec 32 := 0#32
  let v8 : BitVec 1 := Scalar.cmpi .slt c30_i32 c0_i32_2
  let v9 : BitVec 32 := Scalar.extui v8
  let v10 : BitVec 32 := Scalar.subi v7 v9
  let v11 : BitVec 1 := Scalar.cmpi .ne v5 v10
  let v12 : BitVec 32 := Scalar.remsi arg0 c30_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c30_i32_4 : BitVec 32 := 30#32
  let c0_i32_5 : BitVec 32 := 0#32
  let v17 : BitVec 1 := Scalar.cmpi .eq c30_i32_4 c0_i32_5
  let c1_i32_6 : BitVec 32 := 1#32
  let v18 : BitVec 32 := Scalar.select v17 c1_i32_6 c30_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c30_i32 : BitVec 32 := 30#32
  let v0 : BitVec 32 := Scalar.divsi arg0 c30_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c30_i32 c0_i32_1
  let v7 : BitVec 32 := Scalar.extui v6
  let c0_i32_2 : BitVec 32 := 0#32
  let v8 : BitVec 1 := Scalar.cmpi .slt c30_i32 c0_i32_2
  let v9 : BitVec 32 := Scalar.extui v8
  let v10 : BitVec 32 := Scalar.subi v7 v9
  let v11 : BitVec 1 := Scalar.cmpi .ne v5 v10
  let v12 : BitVec 32 := Scalar.remsi arg0 c30_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c30_i32_4 : BitVec 32 := 30#32
  let c0_i32_5 : BitVec 32 := 0#32
  let v17 : BitVec 1 := Scalar.cmpi .eq c30_i32_4 c0_i32_5
  let c1_i32_6 : BitVec 32 := 1#32
  let v18 : BitVec 32 := Scalar.select v17 c1_i32_6 c30_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S448x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S448x112 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x448x512 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x14x512 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
abbrev S224x2x3584 : Shape := ⟨3, ![224, 2, 3584]⟩
abbrev S224x1x3584 : Shape := ⟨3, ![224, 1, 3584]⟩
abbrev S256x2x3584 : Shape := ⟨3, ![256, 2, 3584]⟩
abbrev S256x1x3584 : Shape := ⟨3, ![256, 1, 3584]⟩
abbrev S224x2x128 : Shape := ⟨3, ![224, 2, 128]⟩
abbrev S224x1x128 : Shape := ⟨3, ![224, 1, 128]⟩
abbrev S256x2x128 : Shape := ⟨3, ![256, 2, 128]⟩
abbrev S256x1x128 : Shape := ⟨3, ![256, 1, 128]⟩
abbrev S192x2x3584 : Shape := ⟨3, ![192, 2, 3584]⟩
abbrev S192x1x3584 : Shape := ⟨3, ![192, 1, 3584]⟩
  | .local _ .vmem, ⟨22, _⟩ => ⟨S224x2x3584, .bf16⟩
  | .local _ .vmem, ⟨23, _⟩ => ⟨S256x2x3584, .bf16⟩
variable {F : FTy → Type} [FloatOps F]
-- ==== ReferenceIdeal.lean ====
abbrev S2x15360x3584 : Shape := ⟨3, ![2, 15360, 3584]⟩
abbrev S2x15360x112 : Shape := ⟨3, ![2, 15360, 112]⟩
abbrev S448x3584 : Shape := ⟨2, ![448, 3584]⟩
abbrev S448x112 : Shape := ⟨2, ![448, 112]⟩
abbrev S384 : Shape := ⟨1, ![384]⟩
abbrev S2x15360 : Shape := ⟨2, ![2, 15360]⟩
abbrev S2x15360x384 : Shape := ⟨3, ![2, 15360, 384]⟩
abbrev S2x15360x64 : Shape := ⟨3, ![2, 15360, 64]⟩
abbrev S32 : Shape := ⟨1, ![32]⟩
abbrev S_ : Shape := ⟨0, ![]⟩
abbrev S2x15360x1 : Shape := ⟨3, ![2, 15360, 1]⟩
abbrev S1x1x32 : Shape := ⟨3, ![1, 1, 32]⟩
abbrev S2x15360x32 : Shape := ⟨3, ![2, 15360, 32]⟩
abbrev S2x15360x32x2 : Shape := ⟨4, ![2, 15360, 32, 2]⟩
abbrev S2x15360x32x1 : Shape := ⟨4, ![2, 15360, 32, 1]⟩
abbrev S30720x3584 : Shape := ⟨2, ![30720, 3584]⟩
abbrev S30720x112 : Shape := ⟨2, ![30720, 112]⟩
abbrev S1x384 : Shape := ⟨2, ![1, 384]⟩
abbrev S30720x384 : Shape := ⟨2, ![30720, 384]⟩
abbrev S30720x64 : Shape := ⟨2, ![30720, 64]⟩
abbrev S240x384 : Shape := ⟨2, ![240, 384]⟩
abbrev S2x448x15360 : Shape := ⟨3, ![2, 448, 15360]⟩
abbrev S2x14x15360 : Shape := ⟨3, ![2, 14, 15360]⟩
abbrev S448x112x32 : Shape := ⟨3, ![448, 112, 32]⟩
abbrev S448x112x1 : Shape := ⟨3, ![448, 112, 1]⟩
abbrev S30720x112x32 : Shape := ⟨3, ![30720, 112, 32]⟩
abbrev S30720x112x1 : Shape := ⟨3, ![30720, 112, 1]⟩
abbrev S384x3584 : Shape := ⟨2, ![384, 3584]⟩
abbrev S30720 : Shape := ⟨1, ![30720]⟩
abbrev S30720x1 : Shape := ⟨2, ![30720, 1]⟩
abbrev S240x128x384 : Shape := ⟨3, ![240, 128, 384]⟩
abbrev S30720x448 : Shape := ⟨2, ![30720, 448]⟩
abbrev S30720x14x32 : Shape := ⟨3, ![30720, 14, 32]⟩
abbrev S30720x14 : Shape := ⟨2, ![30720, 14]⟩
abbrev S30720x14x1 : Shape := ⟨3, ![30720, 14, 1]⟩
abbrev S2x15360x448 : Shape := ⟨3, ![2, 15360, 448]⟩
abbrev S2x15360x14 : Shape := ⟨3, ![2, 15360, 14]⟩

abbrev nBuf : Space → Nat
  | .hbm => 57
  | .vmem => 11
  | .smem => 0
  | _ => 0

abbrev bufTy : (tb : Table) → Fin (tcTables nBuf tb) → BufTy
  | .hbm, ⟨0, _⟩ => ⟨S2x15360x3584, .fp8e4m3⟩
  | .hbm, ⟨1, _⟩ => ⟨S2x15360x112, .i8⟩
  | .hbm, ⟨2, _⟩ => ⟨S448x3584, .fp8e4m3⟩
  | .hbm, ⟨3, _⟩ => ⟨S448x112, .i8⟩
  | .hbm, ⟨4, _⟩ => ⟨S384, .f32⟩
  | .hbm, ⟨5, _⟩ => ⟨S2x15360, .i32⟩
  | .hbm, ⟨6, _⟩ => ⟨S2x15360x384, .bf16⟩
  | .hbm, ⟨7, _⟩ => ⟨S2x15360x64, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2x15360, .f32⟩
  | .hbm, ⟨25, _⟩ => ⟨S2x15360x1, .f32⟩
  | .hbm, ⟨26, _⟩ => ⟨S1x1x32, .f32⟩
  | .hbm, ⟨27, _⟩ => ⟨S2x15360x32, .f32⟩
  | .hbm, ⟨28, _⟩ => ⟨S2x15360x32, .f32⟩
  | .hbm, ⟨29, _⟩ => ⟨S2x15360x32, .f32⟩
  | .hbm, ⟨30, _⟩ => ⟨S2x15360x32, .f32⟩
  | .hbm, ⟨31, _⟩ => ⟨S2x15360x32, .f32⟩
  | .hbm, ⟨32, _⟩ => ⟨S2x15360x64, .f32⟩
  | .hbm, ⟨33, _⟩ => ⟨S2x15360x32x2, .f32⟩
  | .hbm, ⟨34, _⟩ => ⟨S2x15360x32x1, .f32⟩
  | .hbm, ⟨35, _⟩ => ⟨S2x15360x32, .f32⟩
  | .hbm, ⟨36, _⟩ => ⟨S2x15360x32x1, .f32⟩
  | .hbm, ⟨37, _⟩ => ⟨S2x15360x32, .f32⟩
  | .hbm, ⟨38, _⟩ => ⟨S2x15360x32, .f32⟩
  | .hbm, ⟨39, _⟩ => ⟨S2x15360x32, .f32⟩
  | .hbm, ⟨40, _⟩ => ⟨S2x15360x32, .f32⟩
  | .hbm, ⟨41, _⟩ => ⟨S2x15360x32, .f32⟩
  | .hbm, ⟨42, _⟩ => ⟨S2x15360x32, .f32⟩
  | .hbm, ⟨43, _⟩ => ⟨S2x15360x32, .f32⟩
  | .hbm, ⟨44, _⟩ => ⟨S2x15360x32, .f32⟩
  | .hbm, ⟨45, _⟩ => ⟨S2x15360x32x1, .f32⟩
  | .hbm, ⟨46, _⟩ => ⟨S2x15360x32x1, .f32⟩
  | .hbm, ⟨47, _⟩ => ⟨S2x15360x32x2, .f32⟩
  | .hbm, ⟨48, _⟩ => ⟨S30720x3584, .fp8e4m3⟩
  | .hbm, ⟨49, _⟩ => ⟨S30720x112, .i8⟩
  | .hbm, ⟨50, _⟩ => ⟨S1x384, .f32⟩
  | .hbm, ⟨51, _⟩ => ⟨S30720x384, .bf16⟩
  | .hbm, ⟨52, _⟩ => ⟨S30720x64, .f32⟩
  | .hbm, ⟨53, _⟩ => ⟨S30720x3584, .bf16⟩
  | .hbm, ⟨54, _⟩ => ⟨S240x384, .f32⟩
  | .hbm, ⟨55, _⟩ => ⟨S2x448x15360, .fp8e5m2⟩
  | .hbm, ⟨56, _⟩ => ⟨S2x14x15360, .i8⟩
  | .local _ .vmem, ⟨0, _⟩ => ⟨S30720x3584, .fp8e4m3⟩
  | .local _ .vmem, ⟨1, _⟩ => ⟨S30720x112, .i8⟩
  | .local _ .vmem, ⟨2, _⟩ => ⟨S448x3584, .fp8e4m3⟩
  | .local _ .vmem, ⟨3, _⟩ => ⟨S448x112, .i8⟩
  | .local _ .vmem, ⟨4, _⟩ => ⟨S1x384, .f32⟩
  | .local _ .vmem, ⟨5, _⟩ => ⟨S30720x384, .bf16⟩
  | .local _ .vmem, ⟨6, _⟩ => ⟨S30720x64, .f32⟩
  | .local _ .vmem, ⟨7, _⟩ => ⟨S30720x3584, .bf16⟩
  | .local _ .vmem, ⟨8, _⟩ => ⟨S240x384, .f32⟩
  | .local _ .vmem, ⟨9, _⟩ => ⟨S2x448x15360, .fp8e5m2⟩
  | .local _ .vmem, ⟨10, _⟩ => ⟨S2x14x15360, .i8⟩
  | _, _ => ⟨S2x15360x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S30720x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30720x112 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S448x112 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30720x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S30720x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S30720x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S240x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x448x15360 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x14x15360 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelStage.lean ====
/- The buffers the body of the kernel works on at a point of the grid, and the point at which it fills its scratch. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 60 = 0 :=
  (fun t => by
    have ht : t.val < 60 := Nat.lt_of_lt_of_eq t.isLt N_0
    have e0 : (grid0.coords t 0).val = t.val / 1 % 60 := Pipeline.Grid.coords_val t 0 (by decide) rfl
    simp only [cond0_0, e0]
    word_cmp
   : ∀ t : Fin grid0.N, cond0_0 (grid0.coords t) ↔ t.val % 60 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x112x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x112 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x512 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x384 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x3584 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x448x512 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x14x512 .i8 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S224x3584 .i32 := Memref.whole cc0_scratch0
abbrev scM0_1 : Memref sig .tc .vmem S256x3584 .i32 := Memref.whole cc0_scratch1
abbrev scM0_2 : Memref sig .tc .vmem S256x128 .f32 := Memref.whole cc0_scratch2
abbrev scM0_3 : Memref sig .tc .vmem S384x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRunA.lean ====
/- The run of the body at the first point: whatever the outputs hold, it ends, with its inputs as it found them. -/
module

public import proofs.«01_k».proof.Proof.KernelStage

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2284000 in
/-- The body's triple IN CASE A (`scf.if` 0 taken: points 0): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x3584 .i32) (harg14 : arg14.IsWhole) (arg15 : Memref sig .tc .vmem S256x3584 .i32) (harg15 : arg15.IsWhole) (arg16 : Memref sig .tc .vmem S256x128 .f32) (harg16 : arg16.IsWhole) (arg17 : Memref sig .tc .vmem S384x128 .f32) (harg17 : arg17.IsWhole) (hc0 : cond0_0 i)
    (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_mla_bwd_eq_skeleton]; unfold cc0_mla_bwd_skel
    simp only [k0_part77_eq_skeleton, k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelRunB.lean ====
/- The run of the body at the other points: whatever the outputs hold, it ends, with its inputs as it found them. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1572000 in
/-- The body's triple IN CASE B (`scf.if` 0 not taken: points 1, 2, … 59: 59 of 60): on whole staging memrefs — the inputs' at their contents,
    the FORGOTTEN outputs' (9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x3584 .i32) (harg14 : arg14.IsWhole) (arg15 : Memref sig .tc .vmem S256x3584 .i32) (harg15 : arg15.IsWhole) (arg16 : Memref sig .tc .vmem S256x128 .f32) (harg16 : arg16.IsWhole) (arg17 : Memref sig .tc .vmem S384x128 .f32) (harg17 : arg17.IsWhole) (hc0 : ¬cond0_0 i)
    (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_mla_bwd_eq_skeleton]; unfold cc0_mla_bwd_skel
    simp only [k0_part77_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelFrame.lean ====
/- The frame of the kernel: the launch ends, every argument array is unchanged and every semaphore is at zero. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 6 rfl).trans ((hA c 6).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 60 := lt_of_lt_of_eq t.isLt (show cfg0.N = 60 from N_0)
  by_cases h0 : t.val % 60 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.Spec.lean ====
/- The values both programs compute, one token row at a time, over the extended reals, and the facts about scales and
   exponents that make the two programs' spellings of them agree. -/
module

public import Idealize.ShloMosaic.Lib.Pointwise
public import Idealize.ShloMosaic.PureOps.Ideal.Laws
public import proofs.«01_k».proof.Defs

@[expose] public section

set_option maxRecDepth 16384

noncomputable section

namespace Cert.Spec

open Idealize.ShloMosaic

/-! ## The mathematics of one row -/

/-- What a scale byte multiplies by: `2 ^ (s - 127)`, nothing at `0`, the infinity at `255`. -/
def dec (s : BitVec 8) : EReal :=
  Scalar.select (IntOp.cmpi CmpIPredicate.eq (BitVec.setWidth 32 s) 0#32) (0 : EReal)
    (Scalar.select (IntOp.cmpi CmpIPredicate.eq (BitVec.setWidth 32 s) 255#32) (Ideal.ofBits FTy.f32 2139095040#32)
      (Ideal.exp2 (((IntOp.subi (BitVec.setWidth 32 s) 127#32).toInt : ℝ) : EReal)))

/-- The exponent of a block whose scaled greatest magnitude is `y`. -/
def expo (y : EReal) : EReal :=
  if y = 0 then 0 else
    min (Ideal.ofBits FTy.f32 1123811328#32) (max (Ideal.ofBits FTy.f32 3271294976#32)
      (Ideal.liftRound Int.floor (Ideal.div (Ideal.log y) ((Real.log 2 : ℝ) : EReal)) + 1))

/-- The scaled greatest magnitude of a block. -/
def amax (f : Fin 32 → EReal) : EReal :=
  Finset.fold max (Ideal.ofBits FTy.f32 4286578688#32) (fun x => max (f x) (-(f x))) Finset.univ *
    Ideal.ofBits FTy.f32 932333861#32

/-- One coded value: scaled down and clipped to the format's range. -/
def clipc (v : EReal) : EReal :=
  min (Ideal.ofBits FTy.f32 1197473792#32) (max (Ideal.ofBits FTy.f32 3344957440#32) v)

/-- The compressed row. -/
def cS (W : Fin 448 → Fin 3584 → EReal) (X : Fin 3584 → EReal) (k : Fin 384) : EReal :=
  ∑ d : Fin 3584, X d * W ⟨k.val, by omega⟩ d

/-- The reciprocal root mean square of a row. -/
def rstdS (c : Fin 384 → EReal) : EReal :=
  Ideal.rsqrt (Ideal.div (∑ k : Fin 384, c k * c k) (Ideal.ofBits FTy.f32 1136656384#32) + Ideal.ofBits FTy.f32 897988541#32)

/-- A row's part of the gain's gradient. -/
def pS (c dcf : Fin 384 → EReal) (k : Fin 384) : EReal := dcf k * c k * rstdS c

/-- The gradient with respect to the compressed row. -/
def dcS (c dcf gain : Fin 384 → EReal) (k : Fin 384) : EReal :=
  rstdS c * (dcf k * gain k - c k * (rstdS c * rstdS c) *
    Ideal.div (∑ k : Fin 384, dcf k * gain k * c k) (Ideal.ofBits FTy.f32 1136656384#32))

/-- The two parts of the gradient row side by side. -/
def gS (dc : Fin 384 → EReal) (dk : Fin 64 → EReal) (k : Fin 448) : EReal :=
  if h : k.val < 384 then dc ⟨k.val, h⟩ else dk ⟨k.val - 384, by omega⟩

/-- The exponent of block `b` of a row. -/
def eS (g : Fin 448 → EReal) (b : Fin 14) : EReal :=
  expo (amax fun x : Fin 32 => g ⟨32 * b.val + x.val, by omega⟩)

/-- The codes of a row. -/
def codeS (g : Fin 448 → EReal) (k : Fin 448) : EReal :=
  clipc (g k * Ideal.exp2 (0 - eS g ⟨k.val / 32, by omega⟩))

/-- The scale byte of block `b` of a row. -/
def scaleS (g : Fin 448 → EReal) (b : Fin 14) : BitVec 8 :=
  BitVec.setWidth 8 (IntOp.addi (Ideal.fptosi 32 (eS g b)) 127#32)

/-- The decoded gradient row. -/
def gradS (g : Fin 448 → EReal) (k : Fin 448) : EReal :=
  codeS g k * dec (scaleS g ⟨k.val / 32, by omega⟩)

/-- The row of the input's gradient. -/
def dxS (W : Fin 448 → Fin 3584 → EReal) (g : Fin 448 → EReal) (d : Fin 3584) : EReal :=
  ∑ k : Fin 448, gradS g k * W k d

/-- One value of the rotated row: the pair `d0, d1` turned by the angle `a`; `p` says which of the two. -/
def ropeS (a d0 d1 : EReal) (p : Nat) : EReal :=
  if p = 0 then d0 * Ideal.cos a + d1 * Ideal.sin a else (0 - d0) * Ideal.sin a + d1 * Ideal.cos a

/-! ## Scale words -/

/-- The kernel's spelling of a block's exponent: how many of the 252 least normal powers of two are at most `y`. -/
def eK (y : EReal) : BitVec 32 :=
  if y = 0 then 0#32 else
    IntOp.subi (Finset.fold IntOp.addi (0#32) (fun x : Fin 252 =>
      BitVec.setWidth 32 (BitVec.ofBool (decide
        (Ideal.ofBits FTy.f32 (IntOp.shli ArithUnit.vector (IntOp.addi (BitVec.ofNat 32 x.val) 1#32) 23#32) ≤ y))))
      Finset.univ) 126#32

/-- The fields of a binary32 pattern that holds an exponent alone. -/
theorem fields_f32 : ∀ m : Fin 256, ((BitVec.ofNat 32 m.val <<< 23).extractLsb' 23 8).toNat = m.val ∧
    ((BitVec.ofNat 32 m.val <<< 23).extractLsb' 0 23).toNat = 0 ∧
    ((BitVec.ofNat 32 m.val <<< 23).extractLsb' 31 1 == 1#1) = false := by decide +kernel

/-- The fields of a bfloat16 pattern that holds a scale byte as its exponent. -/
theorem fields_bf16 : ∀ s : BitVec 8, ((BitVec.setWidth 16 s <<< 7).extractLsb' 7 8).toNat = s.toNat ∧
    ((BitVec.setWidth 16 s <<< 7).extractLsb' 0 7).toNat = 0 ∧
    ((BitVec.setWidth 16 s <<< 7).extractLsb' 15 1 == 1#1) = false := by decide +kernel

/-- An IEEE pattern with exponent field `E` strictly inside the range, no fraction and no sign is the power of two. -/
theorem ieee_pow {w : Nat} (m : Nat) (b : BitVec w) (E : Nat) (h0 : E ≠ 0) (h1 : E ≠ 255)
    (ha : (b.extractLsb' m 8).toNat = E) (hb : (b.extractLsb' 0 m).toNat = 0)
    (hc : (b.extractLsb' (8 + m) 1 == 1#1) = false) :
    Ideal.ieee 8 m b = (((2 : ℝ) ^ ((E : Int) - 127) : ℝ) : EReal) := by
  have e : (2 : ℝ) ^ ((E : Int) - 127) = (2 : ℝ) ^ m * (2 : ℝ) ^ ((E : Int) - 127 - m) := by
    rw [← zpow_natCast, ← zpow_add₀ (by norm_num)]; congr 1; ring
  unfold Ideal.ieee
  rw [ha, hb, hc, e]
  dsimp only
  rw [if_neg (by simpa using h1), if_neg h0]
  norm_num

/-- A binary32 pattern with exponent field `m` and nothing else is `2 ^ (m - 127)`. -/
theorem ofBits_pow (m : Nat) (h1 : 1 ≤ m) (h2 : m ≤ 254) :
    Ideal.ofBits .f32 (BitVec.ofNat 32 m <<< 23) = (((2 : ℝ) ^ ((m : Int) - 127) : ℝ) : EReal) := by
  have hm : m < 256 := Nat.lt_of_le_of_lt h2 (by norm_num)
  have h := fields_f32 ⟨m, hm⟩
  exact ieee_pow 23 _ m (by omega) (by omega) h.1 h.2.1 h.2.2

/-- Over a whole number, `exp2` is the power of two. -/
theorem exp2_int (n : Int) : Ideal.exp2 (((n : Int) : ℝ) : EReal) = (((2 : ℝ) ^ n : ℝ) : EReal) := by
  show ((Real.rpow 2 ((n : Int) : ℝ) : ℝ) : EReal) = _
  congr 1
  exact Real.rpow_intCast 2 n

/-- A comparison of two different words for equality is false. -/
theorem cmpi_ne {w : Nat} (a b : BitVec w) (h : a ≠ b) : IntOp.cmpi CmpIPredicate.eq a b = 0#1 := by
  have : (a == b) = false := beq_eq_false_iff_ne.mpr h
  simp only [IntOp.cmpi, this]
  rfl

/-- A selection by the false bit. -/
theorem select_false {α : Type} (a b : α) : Scalar.select (0#1) a b = b := rfl

/-- The decoded scale at a byte strictly inside the range. -/
theorem dec_pow (s : BitVec 8) (n0 : s.toNat ≠ 0) (n1 : s.toNat ≠ 255) :
    dec s = (((2 : ℝ) ^ ((s.toNat : Int) - 127) : ℝ) : EReal) := by
  have e : ∀ s : BitVec 8, (IntOp.subi (BitVec.setWidth 32 s) 127#32).toInt = (s.toNat : Int) - 127 := by decide +kernel
  have c0 : BitVec.setWidth 32 s ≠ 0#32 := fun h => n0 (by
    have := congrArg BitVec.toNat h; rw [BitVec.toNat_setWidth_of_le (by norm_num)] at this; exact this)
  have c1 : BitVec.setWidth 32 s ≠ 255#32 := fun h => n1 (by
    have := congrArg BitVec.toNat h; rw [BitVec.toNat_setWidth_of_le (by norm_num)] at this; exact this)
  unfold dec
  rw [cmpi_ne _ _ c0, cmpi_ne _ _ c1, select_false, select_false, e, exp2_int]

/-- The two spellings of a scale agree. -/
theorem dec_eq (s : BitVec 8) : Ideal.ofBits .bf16 (BitVec.setWidth 16 s <<< 7) = dec s := by
  have h := fields_bf16 s
  by_cases h0 : s = 0#8
  · subst h0
    simp [dec, Scalar.select, IntOp.cmpi, Ideal.ofBits, Ideal.ieee]
  by_cases h1 : s = 255#8
  · subst h1
    simp [dec, Scalar.select, IntOp.cmpi, Ideal.ofBits, Ideal.ieee]
  have n0 : s.toNat ≠ 0 := fun h => h0 (BitVec.eq_of_toNat_eq (by simpa using h))
  have n1 : s.toNat ≠ 255 := fun h => h1 (BitVec.eq_of_toNat_eq (by simpa using h))
  rw [dec_pow s n0 n1]
  exact ieee_pow 7 _ s.toNat n0 n1 h.1 h.2.1 h.2.2

/-! ## Exponents -/

/-- The clip of a whole number between -126 and 126, as the extended reals compute it. -/
theorem clip_int (n : Int) : min (Ideal.ofBits FTy.f32 1123811328#32) (max (Ideal.ofBits FTy.f32 3271294976#32)
    (((n : Int) : ℝ) : EReal)) = (((max (-126) (min 126 n) : Int) : ℝ) : EReal) := by
  have h1 : Ideal.ofBits FTy.f32 1123811328#32 = (((126 : Int) : ℝ) : EReal) := by
    simp [Ideal.ofBits, Ideal.ieee, -EReal.coe_mul]; norm_num
  have h2 : Ideal.ofBits FTy.f32 3271294976#32 = (((-126 : Int) : ℝ) : EReal) := by
    simp [Ideal.ofBits, Ideal.ieee, -EReal.coe_mul]; norm_num
  have hm : Monotone fun n : Int => (((n : Int) : ℝ) : EReal) := fun a b hab => by
    exact EReal.coe_le_coe_iff.mpr (by exact_mod_cast hab)
  rw [h1, h2]
  have e : max (-126) (min 126 n) = min 126 (max (-126) n) := by omega
  rw [e]
  exact ((hm.map_min (a := (126 : Int)) (b := max (-126) n)).trans (by rw [hm.map_max])).symm

/-- A sum of one-bit words over the first `n` positions counts them. -/
theorem fold_count {n : Nat} (p : Fin n → Bool) :
    Finset.fold IntOp.addi (0#32) (fun x : Fin n => BitVec.setWidth 32 (BitVec.ofBool (p x))) Finset.univ =
      BitVec.ofNat 32 (Finset.univ.filter fun x => p x = true).card := by
  classical
  have key : ∀ s : Finset (Fin n), Finset.fold IntOp.addi (0#32)
      (fun x : Fin n => BitVec.setWidth 32 (BitVec.ofBool (p x))) s =
      BitVec.ofNat 32 (s.filter fun x => p x = true).card := by
    intro s
    induction s using Finset.induction_on with
    | empty => simp
    | insert a s ha ih =>
      rw [Finset.fold_insert ha, ih, Finset.filter_insert]
      by_cases h : p a = true
      · rw [if_pos h, Finset.card_insert_of_notMem (fun hh => ha (Finset.mem_filter.mp hh).1), h]
        apply BitVec.eq_of_toNat_eq
        show (BitVec.add _ _).toNat = _
        simp [BitVec.toNat_add, Nat.add_comm]
      · rw [if_neg h]
        have : p a = false := by simpa using h
        rw [this]
        show BitVec.add _ _ = _
        simp
  exact key _

/-- How many of the powers `2 ^ (1 - 127), …, 2 ^ (252 - 127)` are at most a positive `y`. -/
theorem card_powers (t : ℝ) (q : Int) (hq : ∀ n : Int, (2 : ℝ) ^ n ≤ t ↔ n ≤ q) :
    ((Finset.univ : Finset (Fin 252)).filter fun x => (2 : ℝ) ^ ((x.val : Int) + 1 - 127) ≤ t).card =
      (max 0 (min 252 (q + 127))).toNat := by
  have : ((Finset.univ : Finset (Fin 252)).filter fun x => (2 : ℝ) ^ ((x.val : Int) + 1 - 127) ≤ t) =
      (Finset.univ : Finset (Fin 252)).filter fun x => x.val < (max 0 (min 252 (q + 127))).toNat := by
    ext x
    have := x.isLt
    simp only [Finset.mem_filter, Finset.mem_univ, true_and, hq]
    omega
  rw [this, Fin.card_filter_val_lt]
  omega

/-- The word that holds the power the comparison at position `x` uses. -/
theorem power_word (x : Fin 252) :
    Ideal.ofBits FTy.f32 (IntOp.shli ArithUnit.vector (IntOp.addi (BitVec.ofNat 32 x.val) 1#32) 23#32) =
      (((2 : ℝ) ^ ((x.val : Int) + 1 - 127) : ℝ) : EReal) := by
  have e : IntOp.shli ArithUnit.vector (IntOp.addi (BitVec.ofNat 32 x.val) 1#32) 23#32 = BitVec.ofNat 32 (x.val + 1) <<< 23 := by
    revert x; decide +kernel
  have hx := x.isLt
  rw [e, ofBits_pow (x.val + 1) (by omega) (by omega)]
  push_cast
  rfl

/-- The power of two at most a positive real is decided by the floor of its base-two logarithm. -/
theorem pow_le_iff (t : ℝ) (ht : 0 < t) (n : Int) : (2 : ℝ) ^ n ≤ t ↔ n ≤ ⌊Real.log t / Real.log 2⌋ := by
  have h2 : (0 : ℝ) < Real.log 2 := Real.log_pos (by norm_num)
  rw [Int.le_floor, le_div_iff₀ h2, ← Real.log_zpow, Real.log_le_log_iff (by positivity) ht]

/-- The exponent the reference takes and the word the kernel counts are one whole number in the format's range. -/
theorem expo_eK (y : EReal) (hy : 0 ≤ y) :
    ∃ n : Int, -126 ≤ n ∧ n ≤ 126 ∧ expo y = (((n : Int) : ℝ) : EReal) ∧ eK y = BitVec.ofInt 32 n := by
  by_cases h0 : y = 0
  · exact ⟨0, by omega, by omega, by simp [expo, h0], by simp [eK, h0]⟩
  have hpos : 0 < y := lt_of_le_of_ne hy (Ne.symm h0)
  have hcount : ∀ k : Nat, k ≤ 252 → IntOp.subi (BitVec.ofNat 32 k) 126#32 = BitVec.ofInt 32 ((k : Int) - 126) := by
    decide +kernel
  have h2 : (0 : ℝ) < Real.log 2 := Real.log_pos (by norm_num)
  induction y using EReal.rec with
  | bot => exact absurd hy (by simp)
  | top =>
    refine ⟨126, by omega, by omega, ?_, ?_⟩
    · rw [expo, if_neg h0]
      have : Ideal.div (Ideal.log ⊤) ((Real.log 2 : ℝ) : EReal) = ⊤ := by
        show Ideal.div ⊤ _ = ⊤
        unfold Ideal.div
        rw [if_neg (by exact_mod_cast h2.ne'), ← EReal.coe_inv]
        exact EReal.top_mul_coe_of_pos (by positivity)
      rw [this]
      show min _ (max _ ((⊤ : EReal) + 1)) = _
      have h1 : Ideal.ofBits FTy.f32 1123811328#32 = (((126 : Int) : ℝ) : EReal) := by
        simp [Ideal.ofBits, Ideal.ieee, -EReal.coe_mul]; norm_num
      have : (⊤ : EReal) + 1 = ⊤ := rfl
      rw [this, max_eq_right le_top, min_eq_left le_top, h1]
    · rw [eK, if_neg h0, fold_count, Finset.filter_true_of_mem (by intro x _; simp)]
      simp only [Finset.card_univ, Fintype.card_fin]
      decide
  | coe t =>
    have ht : 0 < t := by exact_mod_cast hpos
    refine ⟨max (-126) (min 126 (⌊Real.log t / Real.log 2⌋ + 1)), by omega, by omega, ?_, ?_⟩
    · rw [expo, if_neg h0]
      have e1 : Ideal.log (t : EReal) = ((Real.log t : ℝ) : EReal) := by
        show (if t ≤ 0 then (⊥ : EReal) else _) = _
        rw [if_neg (by linarith)]
      have e2 : Ideal.div ((Real.log t : ℝ) : EReal) ((Real.log 2 : ℝ) : EReal) = ((Real.log t / Real.log 2 : ℝ) : EReal) := by
        unfold Ideal.div
        rw [if_neg (by exact_mod_cast h2.ne'), ← EReal.coe_inv, ← EReal.coe_mul, div_eq_mul_inv]
      rw [e1, e2, Ideal.liftRound_coe]
      have e3 : (((⌊Real.log t / Real.log 2⌋ : Int) : ℝ) : EReal) + 1 = (((⌊Real.log t / Real.log 2⌋ + 1 : Int) : ℝ) : EReal) := by
        push_cast; rfl
      rw [e3, clip_int]
    · rw [eK, if_neg h0, fold_count]
      have := card_powers t _ (pow_le_iff t ht)
      have e : ((Finset.univ : Finset (Fin 252)).filter fun x => decide
          (Ideal.ofBits FTy.f32 (IntOp.shli ArithUnit.vector (IntOp.addi (BitVec.ofNat 32 x.val) 1#32) 23#32) ≤ (t : EReal)) = true) =
          (Finset.univ : Finset (Fin 252)).filter fun x => (2 : ℝ) ^ ((x.val : Int) + 1 - 127) ≤ t := by
        ext x
        simp only [Finset.mem_filter, Finset.mem_univ, true_and, decide_eq_true_eq, power_word, EReal.coe_le_coe_iff]
      rw [e, this, hcount _ (by omega)]
      congr 1
      omega

/-- The greatest magnitude of a block is not negative. -/
theorem amax_nonneg (f : Fin 32 → EReal) : 0 ≤ amax f := by
  have h1 : (0 : EReal) ≤ Finset.fold max (Ideal.ofBits FTy.f32 4286578688#32) (fun x => max (f x) (-(f x))) Finset.univ := by
    rw [Finset.le_fold_max]
    refine Or.inr ⟨0, Finset.mem_univ _, ?_⟩
    rcases le_total 0 (f 0) with h | h
    · exact le_max_of_le_left h
    · exact le_max_of_le_right (by simpa using h)
  have h2 : (0 : EReal) ≤ Ideal.ofBits FTy.f32 932333861#32 := by
    simp [Ideal.ofBits, Ideal.ieee, -EReal.coe_mul]
  exact mul_nonneg h1 h2

/-- The words of a block from its exponent: the factor that scales up, the factor that scales down and the byte. -/
theorem words (y : EReal) (hy : 0 ≤ y) :
    Ideal.ofBits .f32 (IntOp.shli ArithUnit.vector (IntOp.subi 127#32 (eK y)) 23#32) = Ideal.exp2 (0 - expo y) ∧
    BitVec.setWidth 8 (IntOp.addi (eK y) 127#32) = BitVec.setWidth 8 (IntOp.addi (Ideal.fptosi 32 (expo y)) 127#32) ∧
    Ideal.ofBits .f32 (IntOp.shli ArithUnit.vector (IntOp.addi 127#32 (eK y)) 23#32) =
      dec (BitVec.setWidth 8 (IntOp.addi (Ideal.fptosi 32 (expo y)) 127#32)) := by
  obtain ⟨n, hl, hu, he, hk⟩ := expo_eK y hy
  obtain ⟨m, rfl⟩ : ∃ m : Nat, n = (m : Int) - 126 := ⟨(n + 126).toNat, by omega⟩
  have hm : m < 253 := by omega
  have w1 : ∀ m : Fin 253, IntOp.shli ArithUnit.vector (IntOp.subi 127#32 (BitVec.ofInt 32 ((m.val : Int) - 126))) 23#32 =
      BitVec.ofNat 32 (253 - m.val) <<< 23 := by decide +kernel
  have w2 : ∀ m : Fin 253, IntOp.shli ArithUnit.vector (IntOp.addi 127#32 (BitVec.ofInt 32 ((m.val : Int) - 126))) 23#32 =
      BitVec.ofNat 32 (m.val + 1) <<< 23 := by decide +kernel
  have w3 : ∀ m : Fin 253, (BitVec.setWidth 8 (IntOp.addi (BitVec.ofInt 32 ((m.val : Int) - 126)) 127#32)).toNat = m.val + 1 := by
    decide +kernel
  have w1 := w1 ⟨m, hm⟩
  have w2 := w2 ⟨m, hm⟩
  have w3 := w3 ⟨m, hm⟩
  dsimp only at w1 w2 w3
  have f : Ideal.fptosi 32 (expo y) = BitVec.ofInt 32 ((m : Int) - 126) := by
    rw [he]
    unfold Ideal.fptosi
    congr 1
    show max _ (min _ (if (0 : ℝ) ≤ (((m : Int) - 126 : Int) : ℝ) then ⌊(((m : Int) - 126 : Int) : ℝ)⌋ else ⌈(((m : Int) - 126 : Int) : ℝ)⌉)) = _
    rw [Int.floor_intCast, Int.ceil_intCast, ite_self]
    norm_num
    omega
  rw [f, hk]
  refine ⟨?_, rfl, ?_⟩
  · rw [w1, ofBits_pow _ (by omega) (by omega), he]
    have : (0 : EReal) - ((((m : Int) - 126 : Int) : ℝ) : EReal) = (((-((m : Int) - 126) : Int) : ℝ) : EReal) := by
      rw [zero_sub, ← EReal.coe_neg]; congr 1; push_cast; ring
    rw [this, exp2_int]
    congr 2
    omega
  · rw [w2, ofBits_pow _ (by omega) (by omega), dec_pow _ (by omega) (by omega), w3]

end Cert.Spec
-- ==== Proof.KernelIdealStage.lean ====
/- The buffers the body of the kernel's idealization works on at a point of the grid, and the point at which it fills its scratch. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 60 = 0 :=
  (fun t => by
    have ht : t.val < 60 := Nat.lt_of_lt_of_eq t.isLt N_0
    have e0 : (grid0.coords t 0).val = t.val / 1 % 60 := Pipeline.Grid.coords_val t 0 (by decide) rfl
    simp only [cond0_0, e0]
    word_cmp
   : ∀ t : Fin grid0.N, cond0_0 (grid0.coords t) ↔ t.val % 60 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x112x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x112 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x512 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x384 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x3584 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x448x512 .fp8e5m2 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x14x512 .i8 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S224x2x3584 .bf16 := Memref.whole cc0_scratch0
abbrev scM0_1 : Memref sig .tc .vmem S256x2x3584 .bf16 := Memref.whole cc0_scratch1
abbrev scM0_2 : Memref sig .tc .vmem S256x128 .f32 := Memref.whole cc0_scratch2
abbrev scM0_3 : Memref sig .tc .vmem S384x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.ValueRunA.lean ====
/- The run of the kernel body in its first grid point, with what it leaves in every output and in the two scratch buffers that later points read. -/
module

public import proofs.«01_k».proof.Proof.KernelIdealStage

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2956000 in
/-- The body run: on whole staging buffers with the inputs at their contents, each output and each scratch that is stored into ends with the listed pieces written over what it held. The gain-gradient block is read before it is stored, so its contents `x10` at the start are named. -/
noncomputable def valueRunA (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i)
    (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    Σ' (L9 : List (View.Piece (Elt F) S512x3584 .bf16)), Σ' (L10 : List (View.Piece (Elt F) S8x384 .f32)), Σ' (L11 : List (View.Piece (Elt F) S1x448x512 .fp8e5m2)), Σ' (L12 : List (View.Piece (Elt F) S1x14x512 .i8)), Σ' (LS0 : List (View.Piece (Elt F) S224x2x3584 .bf16)), Σ' (LS3 : List (View.Piece (Elt F) S384x128 .f32)), { LT1 : List (View.Piece (Elt F) S256x2x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ d, owns (c : Thread nD τ) arg16 fullShare d) ∗ (∃ f, arg17.view.loc (c : Thread nD τ) ↦[arg17.view.set]{fullShare} arg17.view.writes (Elt F) f LS3)) -∗ K ⟨⟩))
          ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_mla_bwd_eq_skeleton]; unfold cc0_mla_bwd_skel
    simp only [k0_part83_eq_skeleton, k0_part31_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]
    · iexists _, _; isplitr; swap; · iexact HS2
      ipureintro; rfl
    iexists _; iexact HS3

end Cert.KernelIdeal.Gen

end
-- ==== Proof.ValueRunB.lean ====
/- The run of the kernel body in every grid point but the first, with what it leaves in every output and in the two scratch buffers that later points read. -/
module

public import proofs.«01_k».proof.Proof.ValueRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1896000 in
/-- The body run: on whole staging buffers with the inputs at their contents and the carried scratch at what the point before left, each output and each scratch that is stored into ends with the listed pieces written over what it held. The gain-gradient block is read before it is stored, so its contents `x10` at the start are named. -/
noncomputable def valueRunB (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : ¬cond0_0 i)
    (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) (xs0 : Vec F S224x2x3584 .bf16) (xs3 : Vec F S384x128 .f32) :
    Σ' (L9 : List (View.Piece (Elt F) S512x3584 .bf16)), Σ' (L10 : List (View.Piece (Elt F) S8x384 .f32)), Σ' (L11 : List (View.Piece (Elt F) S1x448x512 .fp8e5m2)), Σ' (L12 : List (View.Piece (Elt F) S1x14x512 .i8)), Σ' (LS0 : List (View.Piece (Elt F) S224x2x3584 .bf16)), Σ' (LS3 : List (View.Piece (Elt F) S384x128 .f32)), { LT1 : List (View.Piece (Elt F) S256x2x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d) ∗ owns (c : Thread nD τ) arg17 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xs0 ∗ (∃ f, arg15.view.loc (c : Thread nD τ) ↦[arg15.view.set]{fullShare} arg15.view.writes (Elt F) f LT1) ∗ (∃ d, owns (c : Thread nD τ) arg16 fullShare d) ∗ owns (c : Thread nD τ) arg17 fullShare xs3) -∗ K ⟨⟩))
          ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, [], [], ?_, fun E K => ?run⟩
  case run =>
    simp only [cc0_mla_bwd_eq_skeleton]; unfold cc0_mla_bwd_skel
    simp only [k0_part83_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%fs0, %hfs0, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg14.eq_unread hfs0; obtain rfl := harg17.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg14.read_unread _
      iexact HS0
    isplitl [HS1]; · iexists _; iexact HS1
    isplitl [HS2]
    · iexists _, _; isplitr; swap; · iexact HS2
      ipureintro; rfl
    iexists _; isplitr; · ipureintro; exact harg17.read_unread _
    iexact HS3

end Cert.KernelIdeal.Gen

end
-- ==== Proof.Slices.lean ====
/- The widening of the two coded matrices: what one slice of 128 columns holds, and the whole buffer that 28 slices leave. -/
module

public import proofs.«01_k».proof.Proof.Spec
public import proofs.«01_k».proof.Proof.ValueRunB
public import Idealize.ShloMosaic.Lib.BitcastPair
public import Idealize.ShloMosaic.Lib.WholeRead
public import Idealize.ShloMosaic.Lib.Pipeline.ValueKit
public import Idealize.ShloMosaic.Lib.Pipeline.CanonAppend

@[expose] public section

set_option maxRecDepth 16384

noncomputable section

namespace Cert.KernelIdeal.Gen

open Idealize.ShloMosaic Idealize.SL.Sem

variable {F : FTy → Type} [FloatOps F]

/-- Which packed scale each lane of a slice takes, as the kernel computes it: `n` and the lane's group of 32. -/
def idxX (n : BitVec 32) : IVec S256x128 32 :=
  have v12 : IVec S256x128 32 := iota .tc S256x128 32 [1] iota_S256x128_d1_w32
  have v13 : IVec S256x128 32 := broadcast S256x128 32#32
  have v14 : IVec S256x128 32 := divsi v12 v13
  have v15 : IVec S256x128 32 := broadcast S256x128 0#32
  have v16 : IVec S256x128 1 := cmpi .sgt v12 v15
  have v17 : IVec S256x128 32 := extui 32 v16 natLt_1_32
  have v18 : IVec S256x128 32 := broadcast S256x128 0#32
  have v19 : IVec S256x128 1 := cmpi .slt v12 v18
  have v20 : IVec S256x128 32 := extui 32 v19 natLt_1_32
  have v21 : IVec S256x128 32 := subi v17 v20
  have v22 : BitVec 1 := Scalar.cmpi .sgt 32#32 0#32
  have v23 : BitVec 32 := Scalar.extui v22
  have v24 : BitVec 1 := Scalar.cmpi .slt 32#32 0#32
  have v25 : BitVec 32 := Scalar.extui v24
  have v26 : BitVec 32 := Scalar.subi v23 v25
  have v27 : IVec S256x128 32 := broadcast S256x128 v26
  have v28 : IVec S256x128 1 := cmpi .ne v21 v27
  have v29 : IVec S256x128 32 := broadcast S256x128 32#32
  have v30 : IVec S256x128 32 := remsi v12 v29
  have v31 : IVec S256x128 32 := broadcast S256x128 0#32
  have v32 : IVec S256x128 1 := cmpi .ne v30 v31
  have v33 : IVec S256x128 1 := andi v28 v32
  have v34 : IVec S256x128 32 := broadcast S256x128 1#32
  have v35 : IVec S256x128 32 := subi v14 v34
  have v36 : IVec S256x128 32 := select v33 v35 v14
  have v37 : IVec S256x128 32 := broadcast S256x128 n
  have v38 : IVec S256x128 32 := addi v37 v36
  have v39 : IVec S256x128 32 := broadcast S256x128 0#32
  have v40 : IVec S256x128 1 := cmpi .slt v38 v39
  have v41 : IVec S256x128 32 := broadcast S256x128 128#32
  have v42 : IVec S256x128 32 := addi v38 v41
  have v43 : IVec S256x128 32 := select v40 v42 v38
  have v44 : IVec S256x128x1 32 := shapeCast S256x128x1 v43 shapeCasts_S256x128_S256x128x1
  have v45 : IVec S256x128 32 := shapeCast S256x128 v44 shapeCasts_S256x128x1_S256x128
  v45

/-- One slice of 128 columns of a widened matrix of 512 rows, as the kernel writes it: `p` the packed scales, `n` the first scale of the slice. -/
def widenX (n : BitVec 32) (p : IVec S256x128 32) (x : Vec F S512x128 .fp8e4m3) : Vec F S256x2x128 .bf16 :=
  have v46 : IVec S256x128 32 := dynamicGather 1 p (idxX n)
  have v47 : FVec F S512x128 .bf16 := bitcastToFloat .bf16 (bitcast S512x128 16 v46 bitcasts_S256x128_w32_S512x128_w16)
  have v49 : FVec F S512x128 .fp8e4m3 := shapeCast S512x128 x shapeCasts_S512x128_S512x128
  have v50 : FVec F S512x128 .bf16 := extf .bf16 v49 bitsLt_fp8e4m3_bf16
  have v51 : FVec F S512x128 .bf16 := mulf v50 v47
  have v55_lo : FVec F S256x128 .bf16 := rowsOfParity 0 S256x128 v51 bitcasts_S512x128_w16_S256x128_w32
  have v55_hi : FVec F S256x128 .bf16 := rowsOfParity 1 S256x128 v51 bitcasts_S512x128_w16_S256x128_w32
  interleaveRows S256x2x128 (shapeCast S256x1x128 v55_lo shapeCasts_S256x128_S256x1x128) (shapeCast S256x1x128 v55_hi shapeCasts_S256x128_S256x1x128) bitcasts_S256x2x128_w16_S256x1x128_w32

/-- The scale a lane takes is the slice's first and the lane's group of 32. -/
theorem idxX_apply (j : Fin 28) (r : Fin 256) (l : Fin 128) :
    (idxX (BitVec.ofNat 32 (4 * j.val)) (ix2 r l)).toNat = 4 * j.val + l.val / 32 := by
  pointwise [idxX]
  revert j l
  decide +kernel

/-- One of the two half words of a packed word, read as one of a pair of rows. -/
theorem unpackX (p : IVec S256x128 32) (r : Fin 256) (q : Fin 2) (l : Fin 128) (j : S512x128.Idx)
    (hj : j = ix2 ⟨2 * r.val + q.val, by omega⟩ l) :
    bitcast S512x128 16 p bitcasts_S256x128_w32_S512x128_w16 j = (p (ix2 r l)).extractLsb' (16 * q.val) 16 := by
  subst hj
  rw [bitcast_32_16]
  refine congrArg₂ (fun (a : Nat) (b : BitVec 32) => b.extractLsb' (16 * a) 16) ?_ (congrArg p ?_)
  · show (2 * r.val + q.val) % 2 = q.val
    omega
  · funext a
    apply Fin.ext
    match a with
    | ⟨0, _⟩ =>
      rw [Shape.Bitcasts.srcIdx_row _ _ _ _ _ rfl]
      show (2 * r.val + q.val) / 2 = r.val
      omega
    | ⟨1, _⟩ => rfl

/-- The value of one slice at an index. -/
theorem widenX_apply (j : Fin 28) (p : IVec S256x128 32) (x : Vec Ideal S512x128 .fp8e4m3) (r : Fin 256) (q : Fin 2) (l : Fin 128) :
    widenX (F := Ideal) (BitVec.ofNat 32 (4 * j.val)) p x (ix3 r q l) =
      x (ix2 ⟨2 * r.val + q.val, by omega⟩ l) *
        Ideal.ofBits .bf16 ((p (ix2 r ⟨4 * j.val + l.val / 32, by omega⟩)).extractLsb' (16 * q.val) 16) := by
  have key : ∀ (q : Fin 2) (i : S512x128.Idx), i = ix2 ⟨2 * r.val + q.val, by omega⟩ l →
      bitcast S512x128 16 (dynamicGather 1 p (idxX (BitVec.ofNat 32 (4 * j.val)))) bitcasts_S256x128_w32_S512x128_w16 i =
        (p (ix2 r ⟨4 * j.val + l.val / 32, by omega⟩)).extractLsb' (16 * q.val) 16 := by
    intro q i hi
    rw [unpackX _ r q l i hi]
    congr 1
    show p _ = p _
    congr 1
    funext a
    apply Fin.ext
    match a with
    | ⟨0, _⟩ => rfl
    | ⟨1, _⟩ =>
      show (idxX (BitVec.ofNat 32 (4 * j.val)) (ix2 r l)).toNat % 128 = _
      rw [idxX_apply]
      show (4 * j.val + l.val / 32) % 128 = 4 * j.val + l.val / 32
      omega
  match q with
  | ⟨0, _⟩ =>
    pointwise [widenX]
    exact congrArg (fun t => x _ * Ideal.ofBits .bf16 t) (key 0 _ rfl)
  | ⟨1, _⟩ =>
    pointwise [widenX]
    exact congrArg (fun t => x _ * Ideal.ofBits .bf16 t) (key 1 _ rfl)

/-- The pair of rows a packed word holds: each half word is the row's own. -/
theorem packX (y : IVec S512x128 16) (r : Fin 256) (q : Fin 2) (l : Fin 128) :
    (bitcast S256x128 32 y bitcasts_S512x128_w16_S256x128_w32 (ix2 r l)).extractLsb' (16 * q.val) 16 =
      y (ix2 ⟨2 * r.val + q.val, by omega⟩ l) := by
  rw [bitcast_16_32]
  have e0 : ∀ (k : Nat) (hk : k < 2) h, Shape.Bitcasts.srcIdx bitcasts_S512x128_w16_S256x128_w32 (ix2 r l) (2 * S256x128.row (ix2 r l) + k) h =
      ix2 ⟨2 * r.val + k, by omega⟩ l := by
    intro k hk h
    funext a
    apply Fin.ext
    match a with
    | ⟨0, _⟩ => rw [Shape.Bitcasts.srcIdx_row _ _ _ _ _ rfl]; rfl
    | ⟨1, _⟩ => rfl
  rw [e0 1 (by omega), show (Shape.Bitcasts.srcIdx bitcasts_S512x128_w16_S256x128_w32 (ix2 r l) (2 * S256x128.row (ix2 r l)) _) =
    ix2 ⟨2 * r.val + 0, by omega⟩ l from e0 0 (by omega) _]
  match q with
  | ⟨0, _⟩ => exact BitVec.extractLsb'_append_eq_right
  | ⟨1, _⟩ => exact BitVec.extractLsb'_append_eq_left
/-- Which packed scale each lane of a slice takes, as the kernel computes it: `n` and the lane's group of 32. -/
def idxW (n : BitVec 32) : IVec S224x128 32 :=
  have v12 : IVec S224x128 32 := iota .tc S224x128 32 [1] iota_S224x128_d1_w32
  have v13 : IVec S224x128 32 := broadcast S224x128 32#32
  have v14 : IVec S224x128 32 := divsi v12 v13
  have v15 : IVec S224x128 32 := broadcast S224x128 0#32
  have v16 : IVec S224x128 1 := cmpi .sgt v12 v15
  have v17 : IVec S224x128 32 := extui 32 v16 natLt_1_32
  have v18 : IVec S224x128 32 := broadcast S224x128 0#32
  have v19 : IVec S224x128 1 := cmpi .slt v12 v18
  have v20 : IVec S224x128 32 := extui 32 v19 natLt_1_32
  have v21 : IVec S224x128 32 := subi v17 v20
  have v22 : BitVec 1 := Scalar.cmpi .sgt 32#32 0#32
  have v23 : BitVec 32 := Scalar.extui v22
  have v24 : BitVec 1 := Scalar.cmpi .slt 32#32 0#32
  have v25 : BitVec 32 := Scalar.extui v24
  have v26 : BitVec 32 := Scalar.subi v23 v25
  have v27 : IVec S224x128 32 := broadcast S224x128 v26
  have v28 : IVec S224x128 1 := cmpi .ne v21 v27
  have v29 : IVec S224x128 32 := broadcast S224x128 32#32
  have v30 : IVec S224x128 32 := remsi v12 v29
  have v31 : IVec S224x128 32 := broadcast S224x128 0#32
  have v32 : IVec S224x128 1 := cmpi .ne v30 v31
  have v33 : IVec S224x128 1 := andi v28 v32
  have v34 : IVec S224x128 32 := broadcast S224x128 1#32
  have v35 : IVec S224x128 32 := subi v14 v34
  have v36 : IVec S224x128 32 := select v33 v35 v14
  have v37 : IVec S224x128 32 := broadcast S224x128 n
  have v38 : IVec S224x128 32 := addi v37 v36
  have v39 : IVec S224x128 32 := broadcast S224x128 0#32
  have v40 : IVec S224x128 1 := cmpi .slt v38 v39
  have v41 : IVec S224x128 32 := broadcast S224x128 128#32
  have v42 : IVec S224x128 32 := addi v38 v41
  have v43 : IVec S224x128 32 := select v40 v42 v38
  have v44 : IVec S224x128x1 32 := shapeCast S224x128x1 v43 shapeCasts_S224x128_S224x128x1
  have v45 : IVec S224x128 32 := shapeCast S224x128 v44 shapeCasts_S224x128x1_S224x128
  v45

/-- One slice of 128 columns of a widened matrix of 448 rows, as the kernel writes it: `p` the packed scales, `n` the first scale of the slice. -/
def widenW (n : BitVec 32) (p : IVec S224x128 32) (x : Vec F S448x128 .fp8e4m3) : Vec F S224x2x128 .bf16 :=
  have v46 : IVec S224x128 32 := dynamicGather 1 p (idxW n)
  have v47 : FVec F S448x128 .bf16 := bitcastToFloat .bf16 (bitcast S448x128 16 v46 bitcasts_S224x128_w32_S448x128_w16)
  have v50 : FVec F S448x128 .bf16 := extf .bf16 x bitsLt_fp8e4m3_bf16
  have v51 : FVec F S448x128 .bf16 := mulf v50 v47
  have v55_lo : FVec F S224x128 .bf16 := rowsOfParity 0 S224x128 v51 bitcasts_S448x128_w16_S224x128_w32
  have v55_hi : FVec F S224x128 .bf16 := rowsOfParity 1 S224x128 v51 bitcasts_S448x128_w16_S224x128_w32
  interleaveRows S224x2x128 (shapeCast S224x1x128 v55_lo shapeCasts_S224x128_S224x1x128) (shapeCast S224x1x128 v55_hi shapeCasts_S224x128_S224x1x128) bitcasts_S224x2x128_w16_S224x1x128_w32

/-- The scale a lane takes is the slice's first and the lane's group of 32. -/
theorem idxW_apply (j : Fin 28) (r : Fin 224) (l : Fin 128) :
    (idxW (BitVec.ofNat 32 (4 * j.val)) (ix2 r l)).toNat = 4 * j.val + l.val / 32 := by
  pointwise [idxW]
  revert j l
  decide +kernel

/-- One of the two half words of a packed word, read as one of a pair of rows. -/
theorem unpackW (p : IVec S224x128 32) (r : Fin 224) (q : Fin 2) (l : Fin 128) (j : S448x128.Idx)
    (hj : j = ix2 ⟨2 * r.val + q.val, by omega⟩ l) :
    bitcast S448x128 16 p bitcasts_S224x128_w32_S448x128_w16 j = (p (ix2 r l)).extractLsb' (16 * q.val) 16 := by
  subst hj
  rw [bitcast_32_16]
  refine congrArg₂ (fun (a : Nat) (b : BitVec 32) => b.extractLsb' (16 * a) 16) ?_ (congrArg p ?_)
  · show (2 * r.val + q.val) % 2 = q.val
    omega
  · funext a
    apply Fin.ext
    match a with
    | ⟨0, _⟩ =>
      rw [Shape.Bitcasts.srcIdx_row _ _ _ _ _ rfl]
      show (2 * r.val + q.val) / 2 = r.val
      omega
    | ⟨1, _⟩ => rfl

/-- The value of one slice at an index. -/
theorem widenW_apply (j : Fin 28) (p : IVec S224x128 32) (x : Vec Ideal S448x128 .fp8e4m3) (r : Fin 224) (q : Fin 2) (l : Fin 128) :
    widenW (F := Ideal) (BitVec.ofNat 32 (4 * j.val)) p x (ix3 r q l) =
      x (ix2 ⟨2 * r.val + q.val, by omega⟩ l) *
        Ideal.ofBits .bf16 ((p (ix2 r ⟨4 * j.val + l.val / 32, by omega⟩)).extractLsb' (16 * q.val) 16) := by
  have key : ∀ (q : Fin 2) (i : S448x128.Idx), i = ix2 ⟨2 * r.val + q.val, by omega⟩ l →
      bitcast S448x128 16 (dynamicGather 1 p (idxW (BitVec.ofNat 32 (4 * j.val)))) bitcasts_S224x128_w32_S448x128_w16 i =
        (p (ix2 r ⟨4 * j.val + l.val / 32, by omega⟩)).extractLsb' (16 * q.val) 16 := by
    intro q i hi
    rw [unpackW _ r q l i hi]
    congr 1
    show p _ = p _
    congr 1
    funext a
    apply Fin.ext
    match a with
    | ⟨0, _⟩ => rfl
    | ⟨1, _⟩ =>
      show (idxW (BitVec.ofNat 32 (4 * j.val)) (ix2 r l)).toNat % 128 = _
      rw [idxW_apply]
      show (4 * j.val + l.val / 32) % 128 = 4 * j.val + l.val / 32
      omega
  match q with
  | ⟨0, _⟩ =>
    pointwise [widenW]
    exact congrArg (fun t => x _ * Ideal.ofBits .bf16 t) (key 0 _ rfl)
  | ⟨1, _⟩ =>
    pointwise [widenW]
    exact congrArg (fun t => x _ * Ideal.ofBits .bf16 t) (key 1 _ rfl)

/-- The pair of rows a packed word holds: each half word is the row's own. -/
theorem packW (y : IVec S448x128 16) (r : Fin 224) (q : Fin 2) (l : Fin 128) :
    (bitcast S224x128 32 y bitcasts_S448x128_w16_S224x128_w32 (ix2 r l)).extractLsb' (16 * q.val) 16 =
      y (ix2 ⟨2 * r.val + q.val, by omega⟩ l) := by
  rw [bitcast_16_32]
  have e0 : ∀ (k : Nat) (hk : k < 2) h, Shape.Bitcasts.srcIdx bitcasts_S448x128_w16_S224x128_w32 (ix2 r l) (2 * S224x128.row (ix2 r l) + k) h =
      ix2 ⟨2 * r.val + k, by omega⟩ l := by
    intro k hk h
    funext a
    apply Fin.ext
    match a with
    | ⟨0, _⟩ => rw [Shape.Bitcasts.srcIdx_row _ _ _ _ _ rfl]; rfl
    | ⟨1, _⟩ => rfl
  rw [e0 1 (by omega), show (Shape.Bitcasts.srcIdx bitcasts_S448x128_w16_S224x128_w32 (ix2 r l) (2 * S224x128.row (ix2 r l)) _) =
    ix2 ⟨2 * r.val + 0, by omega⟩ l from e0 0 (by omega) _]
  match q with
  | ⟨0, _⟩ => exact BitVec.extractLsb'_append_eq_right
  | ⟨1, _⟩ => exact BitVec.extractLsb'_append_eq_left

/-- A packed scale of the input at a half word. -/
theorem packed_x (s : Vec Ideal S1x112x512 .i8) (r : Fin 256) (q : Fin 2) (k : Fin 112) :
    (k0_pay96 (F := Ideal) s (ix2 r ⟨k.val, by omega⟩)).extractLsb' (16 * q.val) 16 =
      BitVec.setWidth 16 (s (ix3 0 k ⟨2 * r.val + q.val, by omega⟩)) <<< 7 := by
  unfold k0_pay96
  rw [packX]
  have hk := k.isLt
  pointwise
  rfl

/-- A packed scale of the weight at a half word. -/
theorem packed_w (s : Vec Ideal S448x112 .i8) (r : Fin 224) (q : Fin 2) (k : Fin 112) :
    (k0_pay2 (F := Ideal) s (ix2 r ⟨k.val, by omega⟩)).extractLsb' (16 * q.val) 16 =
      BitVec.setWidth 16 (s (ix2 ⟨2 * r.val + q.val, by omega⟩ k)) <<< 7 := by
  unfold k0_pay2
  rw [packW]
  have hk := k.isLt
  pointwise
  rfl

/-- The 28 slices as one list of stores, last made first. -/
def piecesX (p : IVec S256x128 32) (x : Fin 28 → Vec F S512x128 .fp8e4m3) : List (View.Piece (Elt F) S256x2x3584 .bf16) :=
  (List.finRange 28).reverse.map fun j => ⟨Rect.unit ![0, 0, 128 * j.val] (Shape.size S256x2x128) (fun a => by
    have := j.isLt; match a with | ⟨0, _⟩ => exact Nat.le_refl _ | ⟨1, _⟩ => exact Nat.le_refl _ | ⟨2, _⟩ => show 128 * j.val + 128 ≤ 3584; omega),
    widenX (BitVec.ofNat 32 (4 * j.val)) p (x j)⟩

/-- The 28 slices as one list of stores, last made first. -/
def piecesW (p : IVec S224x128 32) (x : Fin 28 → Vec F S448x128 .fp8e4m3) : List (View.Piece (Elt F) S224x2x3584 .bf16) :=
  (List.finRange 28).reverse.map fun j => ⟨Rect.unit ![0, 0, 128 * j.val] (Shape.size S224x2x128) (fun a => by
    have := j.isLt; match a with | ⟨0, _⟩ => exact Nat.le_refl _ | ⟨1, _⟩ => exact Nat.le_refl _ | ⟨2, _⟩ => show 128 * j.val + 128 ≤ 3584; omega),
    widenW (BitVec.ofNat 32 (4 * j.val)) p (x j)⟩

/-- What the buffer holds after the 28 slices. -/
theorem canonX (p : IVec S256x128 32) (x : Fin 28 → Vec Ideal S512x128 .fp8e4m3) (r : Fin 256) (q : Fin 2) (d : Fin 3584) :
    View.canon (piecesX (F := Ideal) p x) (ix3 r q d) =
      x ⟨d.val / 128, by omega⟩ (ix2 ⟨2 * r.val + q.val, by omega⟩ ⟨d.val % 128, by omega⟩) *
        Ideal.ofBits .bf16 ((p (ix2 r ⟨d.val / 32, by omega⟩)).extractLsb' (16 * q.val) 16) := by
  let G : S256x2x3584.Idx → EReal := fun y =>
    x ⟨(y 2).val / 128, by have : (y 2).val < 3584 := (y 2).isLt; omega⟩
      (ix2 ⟨2 * (y 0).val + (y 1).val, by have : (y 0).val < 256 := (y 0).isLt; have : (y 1).val < 2 := (y 1).isLt; omega⟩
        ⟨(y 2).val % 128, by omega⟩) *
        Ideal.ofBits .bf16 ((p (ix2 ⟨(y 0).val, (y 0).isLt⟩ ⟨(y 2).val / 32, by have : (y 2).val < 3584 := (y 2).isLt; omega⟩)).extractLsb' (16 * (y 1).val) 16)
  have h := View.canon_append_of_pieces (Val := Elt Ideal) (e := .bf16) G [] (piecesX (F := Ideal) p x) (by
    intro pc hpc z
    obtain ⟨j, _, rfl⟩ := List.mem_map.mp hpc
    have hj := j.isLt
    obtain ⟨a, b, c, rfl⟩ : ∃ (a : Fin 256) (b : Fin 2) (c : Fin 128), z = ix3 a b c := ⟨z 0, z 1, z 2, eq_ix3 z⟩
    refine (widenX_apply j p (x j) a b c).trans ?_
    have hc := c.isLt
    have e2 : ((Rect.emb (Rect.unit ![0, 0, 128 * j.val] (Shape.size S256x2x128) (fun a => by
      have := j.isLt; match a with | ⟨0, _⟩ => exact Nat.le_refl _ | ⟨1, _⟩ => exact Nat.le_refl _ | ⟨2, _⟩ => show 128 * j.val + 128 ≤ 3584; omega) : Rect S256x2x3584) (ix3 a b c)) : S256x2x3584.Idx) =
        ix3 a b ⟨128 * j.val + c.val, by omega⟩ := by
      funext k
      apply Fin.ext
      match k with
      | ⟨0, _⟩ => show 0 + 1 * a.val = a.val; omega
      | ⟨1, _⟩ => show 0 + 1 * b.val = b.val; omega
      | ⟨2, _⟩ => show 128 * j.val + 1 * c.val = 128 * j.val + c.val; omega
    show _ = G _
    rw [e2]
    have d1 : (128 * j.val + c.val) / 128 = j.val := by omega
    have d2 : (128 * j.val + c.val) % 128 = c.val := by omega
    have d3 : (128 * j.val + c.val) / 32 = 4 * j.val + c.val / 32 := by omega
    show _ = x ⟨(128 * j.val + c.val) / 128, _⟩ (ix2 ⟨2 * a.val + b.val, _⟩ ⟨(128 * j.val + c.val) % 128, _⟩) *
        Ideal.ofBits .bf16 ((p (ix2 a ⟨(128 * j.val + c.val) / 32, _⟩)).extractLsb' (16 * b.val) 16)
    simp only [d1, d2, d3]) (ix3 r q d) ⟨_, List.mem_map.mpr ⟨⟨d.val / 128, by omega⟩, by simp, rfl⟩, by
      rw [Rect.mem_set_unit]
      intro a
      match a with
      | ⟨0, _⟩ => exact ⟨Nat.zero_le _, by show r.val < 0 + 256; omega⟩
      | ⟨1, _⟩ => exact ⟨Nat.zero_le _, by show q.val < 0 + 2; omega⟩
      | ⟨2, _⟩ => exact ⟨by show 128 * (d.val / 128) ≤ d.val; omega, by show d.val < 128 * (d.val / 128) + 128; omega⟩⟩
  rw [List.append_nil] at h
  exact h

/-- What the buffer holds after the 28 slices. -/
theorem canonW (p : IVec S224x128 32) (x : Fin 28 → Vec Ideal S448x128 .fp8e4m3) (r : Fin 224) (q : Fin 2) (d : Fin 3584) :
    View.canon (piecesW (F := Ideal) p x) (ix3 r q d) =
      x ⟨d.val / 128, by omega⟩ (ix2 ⟨2 * r.val + q.val, by omega⟩ ⟨d.val % 128, by omega⟩) *
        Ideal.ofBits .bf16 ((p (ix2 r ⟨d.val / 32, by omega⟩)).extractLsb' (16 * q.val) 16) := by
  let G : S224x2x3584.Idx → EReal := fun y =>
    x ⟨(y 2).val / 128, by have : (y 2).val < 3584 := (y 2).isLt; omega⟩
      (ix2 ⟨2 * (y 0).val + (y 1).val, by have : (y 0).val < 224 := (y 0).isLt; have : (y 1).val < 2 := (y 1).isLt; omega⟩
        ⟨(y 2).val % 128, by omega⟩) *
        Ideal.ofBits .bf16 ((p (ix2 ⟨(y 0).val, (y 0).isLt⟩ ⟨(y 2).val / 32, by have : (y 2).val < 3584 := (y 2).isLt; omega⟩)).extractLsb' (16 * (y 1).val) 16)
  have h := View.canon_append_of_pieces (Val := Elt Ideal) (e := .bf16) G [] (piecesW (F := Ideal) p x) (by
    intro pc hpc z
    obtain ⟨j, _, rfl⟩ := List.mem_map.mp hpc
    have hj := j.isLt
    obtain ⟨a, b, c, rfl⟩ : ∃ (a : Fin 224) (b : Fin 2) (c : Fin 128), z = ix3 a b c := ⟨z 0, z 1, z 2, eq_ix3 z⟩
    refine (widenW_apply j p (x j) a b c).trans ?_
    have hc := c.isLt
    have e2 : ((Rect.emb (Rect.unit ![0, 0, 128 * j.val] (Shape.size S224x2x128) (fun a => by
      have := j.isLt; match a with | ⟨0, _⟩ => exact Nat.le_refl _ | ⟨1, _⟩ => exact Nat.le_refl _ | ⟨2, _⟩ => show 128 * j.val + 128 ≤ 3584; omega) : Rect S224x2x3584) (ix3 a b c)) : S224x2x3584.Idx) =
        ix3 a b ⟨128 * j.val + c.val, by omega⟩ := by
      funext k
      apply Fin.ext
      match k with
      | ⟨0, _⟩ => show 0 + 1 * a.val = a.val; omega
      | ⟨1, _⟩ => show 0 + 1 * b.val = b.val; omega
      | ⟨2, _⟩ => show 128 * j.val + 1 * c.val = 128 * j.val + c.val; omega
    show _ = G _
    rw [e2]
    have d1 : (128 * j.val + c.val) / 128 = j.val := by omega
    have d2 : (128 * j.val + c.val) % 128 = c.val := by omega
    have d3 : (128 * j.val + c.val) / 32 = 4 * j.val + c.val / 32 := by omega
    show _ = x ⟨(128 * j.val + c.val) / 128, _⟩ (ix2 ⟨2 * a.val + b.val, _⟩ ⟨(128 * j.val + c.val) % 128, _⟩) *
        Ideal.ofBits .bf16 ((p (ix2 a ⟨(128 * j.val + c.val) / 32, _⟩)).extractLsb' (16 * b.val) 16)
    simp only [d1, d2, d3]) (ix3 r q d) ⟨_, List.mem_map.mpr ⟨⟨d.val / 128, by omega⟩, by simp, rfl⟩, by
      rw [Rect.mem_set_unit]
      intro a
      match a with
      | ⟨0, _⟩ => exact ⟨Nat.zero_le _, by show r.val < 0 + 224; omega⟩
      | ⟨1, _⟩ => exact ⟨Nat.zero_le _, by show q.val < 0 + 2; omega⟩
      | ⟨2, _⟩ => exact ⟨by show 128 * (d.val / 128) ≤ d.val; omega, by show d.val < 128 * (d.val / 128) + 128; omega⟩⟩
  rw [List.append_nil] at h
  exact h

end Cert.KernelIdeal.Gen
-- ==== Proof.Widened.lean ====
/- The two widened matrices as the kernel's scratch buffers hold them, read as plain matrices of codes times scales. -/
module

public import proofs.«01_k».proof.Proof.Slices

@[expose] public section

set_option maxRecDepth 65536

noncomputable section

namespace Cert.KernelIdeal.Gen

open Idealize.ShloMosaic Idealize.SL.Sem

variable {F : FTy → Type} [FloatOps F]

/-- The columns of one slice of the input's codes. -/
def colsX (j : Fin 28) : Rect S512x3584 := Rect.unit ![0, 128 * j.val] (Shape.size S512x128) (fun a => by
    have := j.isLt; match a with | ⟨0, _⟩ => exact Nat.le_refl _ | ⟨1, _⟩ => show 128 * j.val + 128 ≤ 3584; omega)

/-- The columns of one slice of the weight's codes. -/
def colsW (j : Fin 28) : Rect S448x3584 := Rect.unit ![0, 128 * j.val] (Shape.size S448x128) (fun a => by
    have := j.isLt; match a with | ⟨0, _⟩ => exact Nat.le_refl _ | ⟨1, _⟩ => show 128 * j.val + 128 ≤ 3584; omega)

/-- The stores into the widened buffer are the 28 slices. -/
theorem valueRunB_HS1_28 (c : Dev nD) (a : Memref sig .tc .vmem S512x3584 .fp8e4m3) (ha : a.IsWhole) (b : Memref sig .tc .vmem S1x112x512 .i8) (hb : b.IsWhole)
    (x : Vec F S512x3584 .fp8e4m3) (s : Vec F S1x112x512 .i8) :
    valueRunB.sl.HS1_28 (F := F) c a ha b hb x s =
      piecesX (k0_pay96 (View.readAt (Elt F) b.view (Rect.toLoadRect (Rect.unit ![0, 0, 0] (Shape.size S1x112x512) inb_S1x112x512_S1x112x512_0_0_0)) (hb.unread s)))
        (fun j => View.readAt (Elt F) a.view (Rect.toLoadRect (colsX j)) (ha.unread x)) := by
  rfl

/-- The stores into the widened buffer are the 28 slices. -/
theorem valueRunA_HS1_28 (c : Dev nD) (a : Memref sig .tc .vmem S512x3584 .fp8e4m3) (ha : a.IsWhole) (b : Memref sig .tc .vmem S1x112x512 .i8) (hb : b.IsWhole)
    (x : Vec F S512x3584 .fp8e4m3) (s : Vec F S1x112x512 .i8) :
    valueRunA.sl.HS1_28 (F := F) c a ha b hb x s =
      piecesX (k0_pay96 (View.readAt (Elt F) b.view (Rect.toLoadRect (Rect.unit ![0, 0, 0] (Shape.size S1x112x512) inb_S1x112x512_S1x112x512_0_0_0)) (hb.unread s)))
        (fun j => View.readAt (Elt F) a.view (Rect.toLoadRect (colsX j)) (ha.unread x)) := by
  rfl

/-- The stores into the widened buffer are the 28 slices. -/
theorem valueRunA_HS0_28 (c : Dev nD) (a : Memref sig .tc .vmem S448x3584 .fp8e4m3) (ha : a.IsWhole) (b : Memref sig .tc .vmem S448x112 .i8) (hb : b.IsWhole)
    (x : Vec F S448x3584 .fp8e4m3) (s : Vec F S448x112 .i8) :
    valueRunA.sl.HS0_28 (F := F) c a ha b hb x s =
      piecesW (k0_pay2 (View.readAt (Elt F) b.view (Rect.toLoadRect (Rect.unit ![0, 0] (Shape.size S448x112) inb_S448x112_S448x112_0_0)) (hb.unread s)))
        (fun j => View.readAt (Elt F) a.view (Rect.toLoadRect (colsW j)) (ha.unread x)) := by
  rfl

end Cert.KernelIdeal.Gen
-- ==== Proof.Blocks.lean ====
/- The quantiser of the kernel, stated once for the block `b` of 32 rows of the gradient `g`, and its values. -/
module

public import proofs.«01_k».proof.Proof.Spec
public import proofs.«01_k».proof.Proof.Gen.KernelIdeal.Skeleton
public import Idealize.ShloMosaic.Lib.Pipeline.ValueKit
public import Idealize.ShloMosaic.Lib.Pipeline.CanonAppend

@[expose] public section

set_option maxRecDepth 16384

noncomputable section

namespace Cert.KernelIdeal.Gen

open Idealize.ShloMosaic Idealize.SL.Sem Cert.Spec

variable {F : FTy → Type} [FloatOps F]

/-- Block `b` of the gradient. -/
def gbB (b : Fin 14) (g : FVec F S448x512 .f32) : FVec F S32x512 .f32 :=
  extractStridedSlice S32x512 ![32 * b.val, 0] g
    ⟨rfl, fun a => by have := b.isLt; match a with | ⟨0, _⟩ => show 32 * b.val + 32 ≤ 448; omega | ⟨1, _⟩ => exact Nat.le_refl _⟩

/-- The scaled greatest magnitude of block `b`. -/
def amaxB (b : Fin 14) (g : FVec F S448x512 .f32) : FVec F S1x512 .f32 :=
  have v1499 : FVec F S32x512 .f32 := absf (gbB b g)
  have v1500 : FVec F S512 .f32 := multiReduction .maximumf [0] S512 v1499 0xFF800000#32 reduces_S32x512_S512 (.inl rfl) rfl
  have v1501 : FVec F S1x512 .f32 := shapeCast S1x512 v1500 shapeCasts_S512_S1x512
  have cst_446 : F .f32 := Scalar.ofBits .f32 0x37924925#32
  have v1502 : FVec F S1x512 .f32 := broadcast S1x512 cst_446
  mulf v1501 v1502

/-- The exponent of block `b`. -/
def eB (b : Fin 14) (g : FVec F S448x512 .f32) : IVec S1x512 32 :=
  have v1503 : FVec F S1x512 .f32 := amaxB b g
  have cst_447 : F .f32 := Scalar.ofBits .f32 0x00000000#32
  have v1504 : FVec F S1x512 .f32 := broadcast S1x512 cst_447
  have v1505 : IVec S1x512 1 := cmpf .oeq v1503 v1504
  have v1506 : IVec S252x512 32 := iota .tc S252x512 32 [0] iota_S252x512_d0_w32
  have v1507 : IVec S252x512 32 := broadcast S252x512 1#32
  have v1508 : IVec S252x512 32 := addi v1506 v1507
  have v1509 : IVec S252x512 32 := broadcast S252x512 23#32
  have v1510 : IVec S252x512 32 := shli v1508 v1509
  have v1511 : FVec F S252x512 .f32 := bitcastToFloat .f32 v1510
  have v1512 : FVec F S252x512 .f32 := broadcastTo S252x512 v1503 broadcasts_S1x512_S252x512
  have v1513 : IVec S252x512 1 := cmpf .oge v1512 v1511
  have v1514 : IVec S252x512 32 := extui 32 v1513 natLt_1_32
  have v1515 : IVec S512 32 := multiReductionI .add [0] S512 v1514 0#32 reduces_S252x512_S512 rfl
  have v1516 : IVec S1x512 32 := shapeCast S1x512 v1515 shapeCasts_S512_S1x512
  have v1517 : IVec S1x512 32 := broadcast S1x512 126#32
  have v1518 : IVec S1x512 32 := subi v1516 v1517
  have v1519 : IVec S1x512 32 := broadcast S1x512 0#32
  select v1505 v1519 v1518

/-- The codes of block `b`. -/
def codesB (b : Fin 14) (g : FVec F S448x512 .f32) : FVec F S32x512 .fp8e5m2 :=
  have v1521 : IVec S1x512 32 := broadcast S1x512 127#32
  have v1522 : IVec S1x512 32 := subi v1521 (eB b g)
  have v1523 : IVec S1x512 32 := broadcast S1x512 23#32
  have v1524 : IVec S1x512 32 := shli v1522 v1523
  have v1525 : FVec F S1x512 .f32 := bitcastToFloat .f32 v1524
  have v1531 : FVec F S32x512 .f32 := broadcastTo S32x512 v1525 broadcasts_S1x512_S32x512
  have v1532 : FVec F S32x512 .f32 := mulf (gbB b g) v1531
  have v1533 : FVec F S32x512 .f32 := broadcast S32x512 (Scalar.ofBits .f32 0xC7600000#32)
  have v1534 : FVec F S32x512 .f32 := maximumf v1533 v1532
  have v1535 : FVec F S32x512 .f32 := broadcast S32x512 (Scalar.ofBits .f32 0x47600000#32)
  have v1536 : FVec F S32x512 .f32 := minimumf v1535 v1534
  truncf .fp8e5m2 v1536 bitsLt_fp8e5m2_f32

/-- The codes of block `b` as the store writes them. -/
def codes3B (b : Fin 14) (g : FVec F S448x512 .f32) : FVec F S1x32x512 .fp8e5m2 :=
  shapeCast S1x32x512 (codesB b g) shapeCasts_S32x512_S1x32x512

/-- The decoded gradient of block `b`. -/
def gradB (b : Fin 14) (g : FVec F S448x512 .f32) : FVec F S32x512 .bf16 :=
  have v1526 : IVec S1x512 32 := broadcast S1x512 127#32
  have v1527 : IVec S1x512 32 := addi v1526 (eB b g)
  have v1528 : IVec S1x512 32 := broadcast S1x512 23#32
  have v1529 : IVec S1x512 32 := shli v1527 v1528
  have v1530 : FVec F S1x512 .f32 := bitcastToFloat .f32 v1529
  have v1541 : FVec F S32x512 .bf16 := extf .bf16 (codesB b g) bitsLt_fp8e5m2_bf16
  have v1542 : FVec F S1x512 .bf16 := truncf .bf16 v1530 bitsLt_bf16_f32
  have v1543 : FVec F S32x512 .bf16 := broadcastTo S32x512 v1542 broadcasts_S1x512_S32x512
  mulf v1541 v1543

/-- The scale word of block `b`. -/
def wordB (b : Fin 14) (g : FVec F S448x512 .f32) : IVec S1x512 32 :=
  have v1545 : IVec S1x512 32 := broadcast S1x512 127#32
  addi (eB b g) v1545

/-- The scale bytes of all blocks. -/
def scalesT (g : FVec F S448x512 .f32) : IVec S1x14x512 8 :=
  have v2135 : IVec S14x512 32 := concatenate S14x512 0 (List.ofFn fun b : Fin 14 => ⟨S1x512, wordB b g⟩) concatenates_S1x512_S1x512_S1x512_S1x512_S1x512_S1x512_S1x512_S1x512_S1x512_S1x512_S1x512_S1x512_S1x512_S1x512_S14x512_d0
  have v2136 : IVec S14x512 8 := trunci 8 v2135 natLt_8_32
  shapeCast S1x14x512 v2136 shapeCasts_S14x512_S1x14x512

/-- The decoded gradient, a row per token. -/
def gradT (g : FVec F S448x512 .f32) : FVec F S512x448 .bf16 :=
  have v2140 : FVec F S448x512 .bf16 := concatenate S448x512 0 (List.ofFn fun b : Fin 14 => ⟨S32x512, gradB b g⟩) concatenates_S32x512_S32x512_S32x512_S32x512_S32x512_S32x512_S32x512_S32x512_S32x512_S32x512_S32x512_S32x512_S32x512_S32x512_S448x512_d0
  transpose S512x448 [1, 0] v2140 transposes_S448x512_p1_0_S512x448

/-- The stores of the codes, last made first. -/
def piecesC (g : FVec F S448x512 .f32) : List (View.Piece (Elt F) S1x448x512 .fp8e5m2) :=
  (List.finRange 14).reverse.map fun b => ⟨Rect.unit ![0, 32 * b.val, 0] (Shape.size S1x32x512) (fun a => by
    have := b.isLt; match a with | ⟨0, _⟩ => exact Nat.le_refl _ | ⟨1, _⟩ => show 32 * b.val + 32 ≤ 448; omega | ⟨2, _⟩ => exact Nat.le_refl _),
    codes3B b g⟩

/-! ## Values -/

/-- The gradient row of token `c`. -/
def rowG (g : FVec Ideal S448x512 .f32) (c : Fin 512) (k : Fin 448) : EReal := g (ix2 k c)

theorem gbB_apply (b : Fin 14) (g : FVec Ideal S448x512 .f32) (x : Fin 32) (c : Fin 512) :
    gbB b g (ix2 x c) = rowG g c ⟨32 * b.val + x.val, by omega⟩ := by
  show g _ = g _
  congr 1
  funext a
  apply Fin.ext
  match a with
  | ⟨0, _⟩ => rfl
  | ⟨1, _⟩ => show 0 + c.val = c.val; omega

theorem amaxB_apply (b : Fin 14) (g : FVec Ideal S448x512 .f32) (c : Fin 512) :
    amaxB b g (ix2 0 c) = amax fun x : Fin 32 => rowG g c ⟨32 * b.val + x.val, by omega⟩ := by
  pointwise [amaxB]
  simp only [gbB_apply]
  rfl

theorem eB_apply (b : Fin 14) (g : FVec Ideal S448x512 .f32) (c : Fin 512) :
    eB b g (ix2 0 c) = eK (amax fun x : Fin 32 => rowG g c ⟨32 * b.val + x.val, by omega⟩) := by
  pointwise [eB]
  simp only [amaxB_apply]
  rfl

theorem codesB_apply (b : Fin 14) (g : FVec Ideal S448x512 .f32) (x : Fin 32) (c : Fin 512) :
    codesB b g (ix2 x c) = codeS (rowG g c) ⟨32 * b.val + x.val, by omega⟩ := by
  pointwise [codesB]
  rw [eB_apply, gbB_apply]
  have hw := (words _ (amax_nonneg fun y : Fin 32 => rowG g c ⟨32 * b.val + y.val, by omega⟩)).1
  have hb : (⟨(32 * b.val + x.val) / 32, by omega⟩ : Fin 14) = b := Fin.ext (by show (32 * b.val + x.val) / 32 = b.val; omega)
  unfold codeS clipc
  dsimp only
  rw [hb]
  unfold eS
  rw [← hw]

theorem gradB_apply (b : Fin 14) (g : FVec Ideal S448x512 .f32) (x : Fin 32) (c : Fin 512) :
    gradB b g (ix2 x c) = gradS (rowG g c) ⟨32 * b.val + x.val, by omega⟩ := by
  pointwise [gradB]
  rw [eB_apply, codesB_apply]
  have hw := (words _ (amax_nonneg fun y : Fin 32 => rowG g c ⟨32 * b.val + y.val, by omega⟩)).2.2
  have hb : (⟨(32 * b.val + x.val) / 32, by omega⟩ : Fin 14) = b := Fin.ext (by show (32 * b.val + x.val) / 32 = b.val; omega)
  unfold gradS scaleS
  dsimp only
  rw [hb]
  unfold eS
  rw [← hw]

theorem wordB_apply (b : Fin 14) (g : FVec Ideal S448x512 .f32) (c : Fin 512) :
    BitVec.setWidth 8 (wordB b g (ix2 0 c)) = scaleS (rowG g c) b := by
  pointwise [wordB]
  rw [eB_apply]
  exact (words _ (amax_nonneg _)).2.1

theorem scalesT_apply (g : FVec Ideal S448x512 .f32) (b : Fin 14) (c : Fin 512) :
    scalesT g (ix3 0 b c) = scaleS (rowG g c) b := by
  pointwise [scalesT]
  exact wordB_apply b g c

theorem gradT_apply (g : FVec Ideal S448x512 .f32) (c : Fin 512) (k : Fin 448) :
    gradT g (ix2 c k) = gradS (rowG g c) k := by
  unfold gradT
  refine (transpose_apply _ _ _ _ (ix2 k c) (fun b => match b with | ⟨0, _⟩ => rfl | ⟨1, _⟩ => rfl)).trans ?_
  refine (concatenate_ofFn_apply (α := EReal) (t := S448x512) (s₁ := S32x512) 0 (fun b : Fin 14 => gradB b g) _ rfl 32 rfl (ix2 k c) ⟨k.val / 32, by omega⟩ rfl
    (ix2 ⟨k.val % 32, by omega⟩ c) rfl ?_).trans ?_
  · intro b hb
    match b with
    | ⟨0, _⟩ => exact absurd rfl hb
    | ⟨1, _⟩ => rfl
  · rw [gradB_apply]
    congr 1
    apply Fin.ext
    show 32 * (k.val / 32) + k.val % 32 = k.val
    omega

/-- What the block of codes holds after the 14 stores. -/
theorem canonC (g : FVec Ideal S448x512 .f32) (k : Fin 448) (c : Fin 512) :
    View.canon (piecesC (F := Ideal) g) (ix3 0 k c) = codeS (rowG g c) k := by
  let G : S1x448x512.Idx → EReal := fun y => codeS (rowG g ⟨(y 2).val, (y 2).isLt⟩) ⟨(y 1).val, (y 1).isLt⟩
  have h := View.canon_append_of_pieces (Val := Elt Ideal) (e := .fp8e5m2) G [] (piecesC (F := Ideal) g) (by
    intro pc hpc z
    obtain ⟨j, _, rfl⟩ := List.mem_map.mp hpc
    have hj := j.isLt
    obtain ⟨a, b, d, rfl⟩ : ∃ (a : Fin 1) (b : Fin 32) (d : Fin 512), z = ix3 a b d := ⟨z 0, z 1, z 2, eq_ix3 z⟩
    have ha : a = 0 := Subsingleton.elim _ _
    subst ha
    have e1 : codes3B (F := Ideal) j g (ix3 0 b d) = codesB (F := Ideal) j g (ix2 b d) := by pointwise [codes3B]
    refine (e1.trans (codesB_apply j g b d)).trans ?_
    show _ = codeS (rowG g ⟨0 + 1 * d.val, _⟩) ⟨32 * j.val + 1 * b.val, _⟩
    congr 1
    · congr 1
      apply Fin.ext
      show d.val = 0 + 1 * d.val
      omega
    · apply Fin.ext
      show 32 * j.val + b.val = 32 * j.val + 1 * b.val
      omega) (ix3 0 k c) ⟨_, List.mem_map.mpr ⟨⟨k.val / 32, by omega⟩, by simp, rfl⟩, by
      rw [Rect.mem_set_unit]
      intro a
      match a with
      | ⟨0, _⟩ => exact ⟨Nat.zero_le _, by show 0 < 0 + 1; omega⟩
      | ⟨1, _⟩ => exact ⟨by show 32 * (k.val / 32) ≤ k.val; omega, by show k.val < 32 * (k.val / 32) + 32; omega⟩
      | ⟨2, _⟩ => exact ⟨Nat.zero_le _, by show c.val < 0 + 512; omega⟩⟩
  rw [List.append_nil] at h
  exact h

end Cert.KernelIdeal.Gen
-- ==== Proof.Heads.lean ====
/- The kernel's values of one tile before the quantiser: the compressed rows, their norm, the gain's partial sums and the gradient row. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.KernelIdeal.Gen

open Idealize.ShloMosaic Idealize.SL.Sem Cert.Spec

/-- A row of a pair of rows of the weight. -/
theorem ltW (r : Fin 192) (q : Fin 2) : 2 * r.val + q.val < 448 := by omega

/-- A row of a pair of rows of the input. -/
theorem ltX (r : Fin 256) (q : Fin 2) : 2 * r.val + q.val < 512 := by omega

variable (W : Fin 448 → Fin 3584 → EReal) (X : Fin 512 → Fin 3584 → EReal)
  (Wr : Vec Ideal S192x2x3584 .bf16) (Xr : Vec Ideal S256x2x3584 .bf16) (dcv : Vec Ideal S512x384 .bf16)
  (hW : ∀ (r : Fin 192) (q : Fin 2) (d : Fin 3584), Wr (ix3 r q d) = W ⟨2 * r.val + q.val, ltW r q⟩ d)
  (hX : ∀ (r : Fin 256) (q : Fin 2) (d : Fin 3584), Xr (ix3 r q d) = X ⟨2 * r.val + q.val, ltX r q⟩ d)

/-- Row `c` of the gradient of the compressed output. -/
def dcR (c : Fin 512) (k : Fin 384) : EReal := dcv (ix2 c k)

include hW hX in
theorem c_apply (k : Fin 384) (c : Fin 512) : k0_pay197 (F := Ideal) Wr Xr (ix2 k c) = cS W (X c) k := by
  pointwise [k0_pay197]
  unfold cS
  refine Finset.sum_congr rfl fun x _ => ?_
  rw [mul_comm]
  congr 1
  · split
    · rw [hX]
      congr 1
      apply Fin.ext
      show 2 * (c.val / 2) + 0 = c.val
      omega
    · rw [hX]
      congr 1
      apply Fin.ext
      show 2 * (c.val / 2) + 1 = c.val
      omega
  · split
    · rw [hW]
      congr 1
      apply Fin.ext
      show 2 * (k.val / 2) + 0 = k.val
      omega
    · rw [hW]
      congr 1
      apply Fin.ext
      show 2 * (k.val / 2) + 1 = k.val
      omega

theorem dcf_apply (k : Fin 384) (c : Fin 512) : k0_pay198 (F := Ideal) dcv (ix2 k c) = dcR dcv c k := by
  pointwise [k0_pay198]
  rfl

theorem gain_apply (g : Vec Ideal S384x128 .f32) (k : Fin 384) (c : Fin 512) : k0_pay199 (F := Ideal) g (ix2 k c) = g (ix2 k ⟨c.val % 128, by omega⟩) := by
  have hc := c.isLt
  unfold k0_pay199
  show concatenate S384x512 1 (List.ofFn fun _ : Fin 4 => (⟨S384x128, g⟩ : (s : Shape) × (s.Idx → EReal))) concatenates_S384x128_S384x128_S384x128_S384x128_S384x512_d1 (ix2 k c) = _
  refine (concatenate_ofFn_apply (α := EReal) (t := S384x512) (s₁ := S384x128) 1 (fun _ : Fin 4 => g) _ rfl 128 rfl (ix2 k c) ⟨c.val / 128, by omega⟩ rfl
    (ix2 k ⟨c.val % 128, by omega⟩) rfl ?_)
  intro b hb
  match b with
  | ⟨0, _⟩ => rfl
  | ⟨1, _⟩ => exact absurd rfl hb

include hW hX in
theorem rstd_apply (c : Fin 512) : k0_pay200 (F := Ideal) Wr Xr (ix2 0 c) = rstdS (cS W (X c)) := by
  pointwise [k0_pay200]
  simp only [c_apply W X Wr Xr hW hX]
  rfl

include hW hX in
theorem p_apply (k : Fin 384) (c : Fin 512) : k0_pay201 (F := Ideal) Wr Xr dcv (ix2 k c) = pS (cS W (X c)) (dcR dcv c) k := by
  pointwise [k0_pay201]
  rw [c_apply W X Wr Xr hW hX, dcf_apply, rstd_apply W X Wr Xr hW hX]
  rfl

/-- The partial sum over the 128 tokens of group `q` of a tile. -/
def sumS (q : Fin 4) (k : Fin 384) : EReal := ∑ x : Fin 128, pS (cS W (X ⟨128 * q.val + x.val, by omega⟩)) (dcR dcv ⟨128 * q.val + x.val, by omega⟩) k

include hW hX in
theorem sum0_apply (k : Fin 384) : k0_pay202 (F := Ideal) Wr Xr dcv (ix2 0 k) = sumS W X dcv 0 k := by
  pointwise [k0_pay202]
  simp only [p_apply W X Wr Xr dcv hW hX]
  unfold sumS
  refine Finset.sum_congr rfl fun x _ => ?_
  have e : (⟨x.val, by omega⟩ : Fin 512) = ⟨128 * (0 : Fin 4).val + x.val, by show 128 * 0 + x.val < 512; omega⟩ :=
    Fin.ext (by show x.val = 128 * 0 + x.val; omega)
  rw [e]

include hW hX in
theorem sum1_apply (k : Fin 384) : k0_pay204 (F := Ideal) (k0_pay203 (F := Ideal) Wr Xr dcv) (ix2 0 k) = sumS W X dcv 1 k := by
  pointwise [k0_pay204, k0_pay203]
  simp only [p_apply W X Wr Xr dcv hW hX]
  rfl

include hW hX in
theorem sum2_apply (k : Fin 384) : k0_pay205 (F := Ideal) (k0_pay201 (F := Ideal) Wr Xr dcv) (ix2 0 k) = sumS W X dcv 2 k := by
  pointwise [k0_pay205]
  simp only [p_apply W X Wr Xr dcv hW hX]
  rfl

include hW hX in
theorem sum3_apply (k : Fin 384) : k0_pay206 (F := Ideal) (k0_pay201 (F := Ideal) Wr Xr dcv) (ix2 0 k) = sumS W X dcv 3 k := by
  pointwise [k0_pay206]
  simp only [p_apply W X Wr Xr dcv hW hX]
  rfl

/-- The compressed part of the gradient row. -/
theorem dc_apply (gcol : Vec Ideal S384x128 .f32) (gain : Fin 384 → EReal) (hg : ∀ (k : Fin 384) (x : Fin 128), gcol (ix2 k x) = gain k)
    (hW : ∀ (r : Fin 192) (q : Fin 2) (d : Fin 3584), Wr (ix3 r q d) = W ⟨2 * r.val + q.val, ltW r q⟩ d)
    (hX : ∀ (r : Fin 256) (q : Fin 2) (d : Fin 3584), Xr (ix3 r q d) = X ⟨2 * r.val + q.val, ltX r q⟩ d) (k : Fin 384) (c : Fin 512) :
    k0_pay209 (F := Ideal) (k0_pay197 (F := Ideal) Wr Xr) (k0_pay198 (F := Ideal) dcv) (k0_pay199 (F := Ideal) gcol) (k0_pay200 (F := Ideal) Wr Xr) (ix2 k c) =
      dcS (cS W (X c)) (dcR dcv c) gain k := by
  pointwise [k0_pay209]
  simp only [c_apply W X Wr Xr hW hX, rstd_apply W X Wr Xr hW hX, dcf_apply, gain_apply, hg]
  rfl

/-- Whether row `r` of the block belongs to the tile: the words the kernel compares. -/
theorem dg_cond : ∀ (r : Fin 8) (i : Fin 60), IntOp.cmpi CmpIPredicate.eq
        (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (BitVec.ofNat 32 r.val) 4#32) 0#32))
          (IntOp.subi (IntOp.divsi ArithUnit.vector (BitVec.ofNat 32 r.val) 4#32) 1#32)
          (IntOp.divsi ArithUnit.vector (BitVec.ofNat 32 r.val) 4#32))
        (Scalar.select
          (Scalar.andi (Scalar.xori (Scalar.cmpi CmpIPredicate.slt (Scalar.remsi (BitVec.ofNat 32 i.val) 2#32) 0#32) 0#1)
            (Scalar.cmpi CmpIPredicate.ne (Scalar.remsi (BitVec.ofNat 32 i.val) 2#32) 0#32))
          (Scalar.addi (Scalar.remsi (BitVec.ofNat 32 i.val) 2#32) 2#32) (Scalar.remsi (BitVec.ofNat 32 i.val) 2#32)) =
      BitVec.ofBool (decide (r.val / 4 = i.val % 2)) := by decide +kernel

theorem sel_dec {α : Type} (P : Prop) [Decidable P] (a b : α) : Scalar.select (BitVec.ofBool (decide P)) a b = if P then a else b := by
  by_cases h : P <;> simp [h, Scalar.select]

/-- The partial sums as the kernel blends them into the block of eight rows. -/
theorem dg_apply (s0 s1 s2 s3 : FVec Ideal S1x384 .f32) (i : Fin 60) (y : Vec Ideal S8x384 .f32) (r : Fin 8) (k : Fin 384) :
    k0_pay208 (F := Ideal) s0 s1 s2 s3 k0_pay207 2#32 (Scalar.remsi (BitVec.ofNat 32 i.val) 2#32)
      (Scalar.andi (Scalar.xori (Scalar.cmpi .slt (Scalar.remsi (BitVec.ofNat 32 i.val) 2#32) 0#32) 0#1) (Scalar.cmpi .ne (Scalar.remsi (BitVec.ofNat 32 i.val) 2#32) 0#32))
      y (ix2 r k) = if r.val / 4 = i.val % 2 then (![s0, s1, s2, s3] ⟨r.val % 4, by omega⟩) (ix2 0 k) else y (ix2 r k) := by
  pointwise [k0_pay208, k0_pay207]
  have hr := r.isLt
  rw [dg_cond r i, sel_dec]
  congr 1
  rcases r with ⟨r, hr⟩
  interval_cases r
  · rw [dif_pos (by simp)]
    exact congrArg (fun n : Fin 4 => (![s0, s1, s2, s3] n) (ix2 0 k)) (Fin.ext (by rfl) : (0 : Fin 4) = ⟨0 % 4, by decide⟩)
  · rw [dif_neg (by simp)]
    rw [dif_pos (by simp)]
    exact congrArg (fun n : Fin 4 => (![s0, s1, s2, s3] n) (ix2 0 k)) (Fin.ext (by rfl) : (1 : Fin 4) = ⟨1 % 4, by decide⟩)
  · rw [dif_neg (by simp)]
    rw [dif_neg (by simp)]
    rw [dif_pos (by simp)]
    exact congrArg (fun n : Fin 4 => (![s0, s1, s2, s3] n) (ix2 0 k)) (Fin.ext (by rfl) : (2 : Fin 4) = ⟨2 % 4, by decide⟩)
  · rw [dif_neg (by simp)]
    rw [dif_neg (by simp)]
    rw [dif_neg (by simp)]
    rw [dif_pos (by simp)]
    exact congrArg (fun n : Fin 4 => (![s0, s1, s2, s3] n) (ix2 0 k)) (Fin.ext (by rfl) : (3 : Fin 4) = ⟨3 % 4, by decide⟩)
  · rw [dif_neg (by simp)]
    rw [dif_neg (by simp)]
    rw [dif_neg (by simp)]
    rw [dif_neg (by simp)]
    rw [dif_pos (by simp)]
    exact congrArg (fun n : Fin 4 => (![s0, s1, s2, s3] n) (ix2 0 k)) (Fin.ext (by rfl) : (0 : Fin 4) = ⟨4 % 4, by decide⟩)
  · rw [dif_neg (by simp)]
    rw [dif_neg (by simp)]
    rw [dif_neg (by simp)]
    rw [dif_neg (by simp)]
    rw [dif_neg (by simp)]
    rw [dif_pos (by simp)]
    exact congrArg (fun n : Fin 4 => (![s0, s1, s2, s3] n) (ix2 0 k)) (Fin.ext (by rfl) : (1 : Fin 4) = ⟨5 % 4, by decide⟩)
  · rw [dif_neg (by simp)]
    rw [dif_neg (by simp)]
    rw [dif_neg (by simp)]
    rw [dif_neg (by simp)]
    rw [dif_neg (by simp)]
    rw [dif_neg (by simp)]
    rw [dif_pos (by simp)]
    exact congrArg (fun n : Fin 4 => (![s0, s1, s2, s3] n) (ix2 0 k)) (Fin.ext (by rfl) : (2 : Fin 4) = ⟨6 % 4, by decide⟩)
  · rw [dif_neg (by simp)]
    rw [dif_neg (by simp)]
    rw [dif_neg (by simp)]
    rw [dif_neg (by simp)]
    rw [dif_neg (by simp)]
    rw [dif_neg (by simp)]
    rw [dif_neg (by simp)]
    exact congrArg (fun n : Fin 4 => (![s0, s1, s2, s3] n) (ix2 0 k)) (Fin.ext (by rfl) : (3 : Fin 4) = ⟨7 % 4, by decide⟩)

/-- The gradient row: the compressed part, then the rotated part. -/
theorem g_apply (dc : FVec Ideal S384x512 .f32) (r0 r1 r2 r3 : Vec Ideal S64x128 .f32) (k : Fin 448) (c : Fin 512) :
    k0_pay229 (F := Ideal) dc r0 r1 r2 r3 (ix2 k c) =
      gS (fun k => dc (ix2 k c)) (fun k => (![r0, r1, r2, r3] ⟨c.val / 128, by omega⟩) (ix2 k ⟨c.val % 128, by omega⟩)) k := by
  pointwise [k0_pay229]
  unfold gS
  split
  · rfl
  · have hc := c.isLt
    split
    · rw [show (⟨c.val / 128, by omega⟩ : Fin 4) = 0 from Fin.ext (by show c.val / 128 = 0; omega)]
      show r0 _ = r0 _
      congr 2
      apply Fin.ext
      show c.val = c.val % 128
      omega
    · split
      · rw [show (⟨c.val / 128, by omega⟩ : Fin 4) = 1 from Fin.ext (by show c.val / 128 = 1; omega)]
        show r1 _ = r1 _
        congr 2
        apply Fin.ext
        show c.val - 128 = c.val % 128
        omega
      · split
        · rw [show (⟨c.val / 128, by omega⟩ : Fin 4) = 2 from Fin.ext (by show c.val / 128 = 2; omega)]
          show r2 _ = r2 _
          congr 2
          apply Fin.ext
          show c.val - 128 - 128 = c.val % 128
          omega
        · rw [show (⟨c.val / 128, by omega⟩ : Fin 4) = 3 from Fin.ext (by show c.val / 128 = 3; omega)]
          show r3 _ = r3 _
          congr 2
          apply Fin.ext
          show c.val - 128 - 128 - 128 = c.val % 128
          omega

end Cert.KernelIdeal.Gen
-- ==== Proof.Rope.lean ====
/- The rotation of the last 64 rows: what the four groups of 128 columns read back from the scratch buffer they are turned in. -/
module

public import proofs.«01_k».proof.Proof.Spec
public import proofs.«01_k».proof.Proof.Gen.KernelIdeal.Skeleton
public import Idealize.ShloMosaic.Lib.Pipeline.ValueKit
public import Idealize.ShloMosaic.Lib.Pipeline.CanonAppend

@[expose] public section

set_option maxRecDepth 16384

noncomputable section

namespace Cert.KernelIdeal.Gen

open Idealize.ShloMosaic Idealize.SL.Sem Cert.Spec

variable {F : FTy → Type} [FloatOps F]

/-- Every second row of a group, from row `p` of the group on. -/
def halfR (q : Fin 4) (p : Fin 2) : Rect S256x128 :=
  ⟨(⟨![64 * q.val + p.val, 0], Shape.size S32x128, ![2, 1], fun a => by
    have := q.isLt; have := p.isLt
    match a with | ⟨0, _⟩ => right; show 64 * q.val + p.val + 2 * (32 - 1) < 256; omega | ⟨1, _⟩ => right; show 0 + 1 * (128 - 1) < 128; omega⟩ : LoadRect S256x128),
    fun a => by match a with | ⟨0, _⟩ => show 0 < 2; omega | ⟨1, _⟩ => show 0 < 1; omega⟩

/-- The rows of a group. -/
def groupR (q : Fin 4) : Rect S256x128 :=
  Rect.unit ![64 * q.val, 0] (Shape.size S64x128) (fun a => by
    have := q.isLt; match a with | ⟨0, _⟩ => show 64 * q.val + 64 ≤ 256; omega | ⟨1, _⟩ => exact Nat.le_refl _)

/-- The columns of group `q` of a value of 32 rows. -/
def sl32 (q : Fin 4) (x : FVec F S32x512 .f32) : FVec F S32x128 .f32 :=
  extractStridedSlice S32x128 ![0, 128 * q.val] x
    ⟨rfl, fun a => by have := q.isLt; match a with | ⟨0, _⟩ => exact Nat.le_refl _ | ⟨1, _⟩ => show 128 * q.val + 128 ≤ 512; omega⟩

/-- The columns of group `q` of the 64 rows. -/
def sl64 (q : Fin 4) (x : FVec F S64x512 .f32) : FVec F S64x128 .f32 :=
  shapeCast S64x128 (extractStridedSlice S64x128 ![0, 128 * q.val] x
    ⟨rfl, fun a => by have := q.isLt; match a with | ⟨0, _⟩ => exact Nat.le_refl _ | ⟨1, _⟩ => show 128 * q.val + 128 ≤ 512; omega⟩) shapeCasts_S64x128_S64x128

/-- The group's rows stored. -/
def baseL (q : Fin 4) (dk : FVec F S64x512 .f32) (L : List (View.Piece (Elt F) S256x128 .f32)) : List (View.Piece (Elt F) S256x128 .f32) :=
  ⟨groupR q, sl64 q dk⟩ :: L

/-- One parity of the group's rows read back. -/
def halfV (m : Memref sig .tc .vmem S256x128 .f32) (q : Fin 4) (p : Fin 2) (dk : FVec F S64x512 .f32) (L : List (View.Piece (Elt F) S256x128 .f32)) : Vec F S32x128 .f32 :=
  View.readCov m.view (baseL q dk L) (halfR q p).toLoadRect

/-- The turned even rows. -/
def evenV (q : Fin 4) (cs sn : FVec F S32x512 .f32) (a b : Vec F S32x128 .f32) : FVec F S32x128 .f32 :=
  shapeCast S32x128 (addf (mulf a (sl32 q cs)) (mulf b (sl32 q sn))) shapeCasts_S32x128_S32x128

/-- The turned odd rows. -/
def oddV (q : Fin 4) (cs sn : FVec F S32x512 .f32) (a b : Vec F S32x128 .f32) : FVec F S32x128 .f32 :=
  shapeCast S32x128 (addf (mulf (subf (broadcast S32x128 (Scalar.ofBits .f32 0x00000000#32)) a) (sl32 q sn)) (mulf b (sl32 q cs))) shapeCasts_S32x128_S32x128

/-- The stores after group `q` is turned. -/
def turnL (m : Memref sig .tc .vmem S256x128 .f32) (q : Fin 4) (cs sn : FVec F S32x512 .f32) (dk : FVec F S64x512 .f32) (L : List (View.Piece (Elt F) S256x128 .f32)) :
    List (View.Piece (Elt F) S256x128 .f32) :=
  ⟨halfR q 1, oddV q cs sn (halfV m q 0 dk L) (halfV m q 1 dk L)⟩ :: ⟨halfR q 0, evenV q cs sn (halfV m q 0 dk L) (halfV m q 1 dk L)⟩ :: baseL q dk L

/-- The turned group read back. -/
def turnV (m : Memref sig .tc .vmem S256x128 .f32) (q : Fin 4) (cs sn : FVec F S32x512 .f32) (dk : FVec F S64x512 .f32) (L : List (View.Piece (Elt F) S256x128 .f32)) :
    Vec F S64x128 .f32 :=
  View.readCov m.view (turnL m q cs sn dk L) (groupR q).toLoadRect

/-! ## Values -/

theorem sl32_apply (q : Fin 4) (x : FVec Ideal S32x512 .f32) (h : Fin 32) (l : Fin 128) : sl32 q x (ix2 h l) = x (ix2 h ⟨128 * q.val + l.val, by omega⟩) := by
  show x _ = x _
  congr 1
  funext a
  apply Fin.ext
  match a with
  | ⟨0, _⟩ => show 0 + h.val = h.val; omega
  | ⟨1, _⟩ => rfl

theorem sl64_apply (q : Fin 4) (x : FVec Ideal S64x512 .f32) (h : Fin 64) (l : Fin 128) : sl64 q x (ix2 h l) = x (ix2 h ⟨128 * q.val + l.val, by omega⟩) := by
  unfold sl64
  rw [shapeCast_self]
  show x _ = x _
  congr 1
  funext a
  apply Fin.ext
  match a with
  | ⟨0, _⟩ => show 0 + h.val = h.val; omega
  | ⟨1, _⟩ => rfl

theorem halfR_emb (q : Fin 4) (p : Fin 2) (h : Fin 32) (l : Fin 128) : ((halfR q p).emb (ix2 h l) : S256x128.Idx) = ix2 ⟨64 * q.val + p.val + 2 * h.val, by omega⟩ l := by
  funext a
  apply Fin.ext
  match a with
  | ⟨0, _⟩ => rfl
  | ⟨1, _⟩ => show 0 + 1 * l.val = l.val; omega

theorem groupR_emb (q : Fin 4) (h : Fin 64) (l : Fin 128) : ((groupR q).emb (ix2 h l) : S256x128.Idx) = ix2 ⟨64 * q.val + h.val, by omega⟩ l := by
  funext a
  apply Fin.ext
  match a with
  | ⟨0, _⟩ => show 64 * q.val + 1 * h.val = 64 * q.val + h.val; omega
  | ⟨1, _⟩ => show 0 + 1 * l.val = l.val; omega

variable (m : Memref sig .tc .vmem S256x128 .f32)

theorem halfV_apply (q : Fin 4) (p : Fin 2) (dk : FVec Ideal S64x512 .f32) (L : List (View.Piece (Elt Ideal) S256x128 .f32)) (h : Fin 32) (l : Fin 128) :
    halfV m q p dk L (ix2 h l) = dk (ix2 ⟨2 * h.val + p.val, by omega⟩ ⟨128 * q.val + l.val, by omega⟩) := by
  unfold halfV
  rw [View.readCov_eq_canon']
  show View.canon (baseL q dk L) ((halfR q p).emb (ix2 h l)) = _
  rw [halfR_emb, show (ix2 ⟨64 * q.val + p.val + 2 * h.val, by omega⟩ l : S256x128.Idx) = (groupR q).emb (ix2 ⟨2 * h.val + p.val, by omega⟩ l) from by
    rw [groupR_emb]
    congr 1
    apply Fin.ext
    show 64 * q.val + p.val + 2 * h.val = 64 * q.val + (2 * h.val + p.val)
    omega]
  unfold baseL
  refine (View.canon_cons_emb (Val := Elt Ideal) (e := .f32) _ _ _ _).trans ?_
  exact sl64_apply q dk _ l

theorem evenV_apply (q : Fin 4) (cs sn : FVec Ideal S32x512 .f32) (a b : Vec Ideal S32x128 .f32) (h : Fin 32) (l : Fin 128) :
    evenV q cs sn a b (ix2 h l) = a (ix2 h l) * cs (ix2 h ⟨128 * q.val + l.val, by omega⟩) + b (ix2 h l) * sn (ix2 h ⟨128 * q.val + l.val, by omega⟩) := by
  unfold evenV
  rw [shapeCast_self]
  show a (ix2 h l) * sl32 q cs (ix2 h l) + b (ix2 h l) * sl32 q sn (ix2 h l) = _
  rw [sl32_apply, sl32_apply]

theorem oddV_apply (q : Fin 4) (cs sn : FVec Ideal S32x512 .f32) (a b : Vec Ideal S32x128 .f32) (h : Fin 32) (l : Fin 128) :
    oddV q cs sn a b (ix2 h l) = (0 - a (ix2 h l)) * sn (ix2 h ⟨128 * q.val + l.val, by omega⟩) + b (ix2 h l) * cs (ix2 h ⟨128 * q.val + l.val, by omega⟩) := by
  unfold oddV
  rw [shapeCast_self]
  show (Ideal.ofBits .f32 0x00000000#32 - a (ix2 h l)) * sl32 q sn (ix2 h l) + b (ix2 h l) * sl32 q cs (ix2 h l) = _
  rw [sl32_apply, sl32_apply, Ideal.ofBits_zero_f32]

/-- The turned group at an index: the pair of rows turned by the column's angle. -/
theorem turnV_apply (q : Fin 4) (ang : Fin 32 → Fin 512 → EReal) (cs sn : FVec Ideal S32x512 .f32) (dk : FVec Ideal S64x512 .f32)
    (hc : ∀ h c, cs (ix2 h c) = Ideal.cos (ang h c)) (hs : ∀ h c, sn (ix2 h c) = Ideal.sin (ang h c))
    (L : List (View.Piece (Elt Ideal) S256x128 .f32)) (j : Fin 64) (l : Fin 128) :
    turnV m q cs sn dk L (ix2 j l) =
      ropeS (ang ⟨j.val / 2, by omega⟩ ⟨128 * q.val + l.val, by omega⟩) (dk (ix2 ⟨2 * (j.val / 2), by omega⟩ ⟨128 * q.val + l.val, by omega⟩))
        (dk (ix2 ⟨2 * (j.val / 2) + 1, by omega⟩ ⟨128 * q.val + l.val, by omega⟩)) (j.val % 2) := by
  have hj := j.isLt
  unfold turnV
  rw [View.readCov_eq_canon']
  show View.canon (turnL m q cs sn dk L) ((groupR q).emb (ix2 j l)) = _
  unfold turnL ropeS
  rw [groupR_emb]
  split
  · rename_i he
    have e : (ix2 ⟨64 * q.val + j.val, by omega⟩ l : S256x128.Idx) = (halfR q 0).emb (ix2 ⟨j.val / 2, by omega⟩ l) := by
      rw [halfR_emb]
      congr 1
      apply Fin.ext
      show 64 * q.val + j.val = 64 * q.val + 0 + 2 * (j.val / 2)
      omega
    rw [View.canon_cons_of_not_mem, e]
    · refine (View.canon_cons_emb (Val := Elt Ideal) (e := .f32) _ _ _ _).trans ?_
      rw [evenV_apply, halfV_apply, halfV_apply, hc, hs]
      rfl
    · intro hm
      obtain ⟨x, hx⟩ := (halfR q 1).exists_idx_of_mem hm
      have h0 := congrArg (fun y : S256x128.Idx => (y 0).val) hx
      have h1 : 64 * q.val + 1 + 2 * (x 0).val = 64 * q.val + j.val := h0
      omega
  · rename_i he
    have e : (ix2 ⟨64 * q.val + j.val, by omega⟩ l : S256x128.Idx) = (halfR q 1).emb (ix2 ⟨j.val / 2, by omega⟩ l) := by
      rw [halfR_emb]
      congr 1
      apply Fin.ext
      show 64 * q.val + j.val = 64 * q.val + 1 + 2 * (j.val / 2)
      omega
    rw [e]
    refine (View.canon_cons_emb (Val := Elt Ideal) (e := .f32) _ _ _ _).trans ?_
    rw [oddV_apply, halfV_apply, halfV_apply, hc, hs]
    rfl

end Cert.KernelIdeal.Gen
-- ==== Proof.Tile.lean ====
/- One tile of the launch: the values stored into the four outputs, from the tile's blocks and the two widened matrices. -/
module

public import proofs.«01_k».proof.Proof.Widened
public import proofs.«01_k».proof.Proof.Blocks
public import proofs.«01_k».proof.Proof.Heads
public import proofs.«01_k».proof.Proof.Rope
public import proofs.«01_k».proof.Proof.ValueRunA
public import proofs.«01_k».proof.Proof.ValueRunB

@[expose] public section

set_option maxRecDepth 65536

noncomputable section

namespace Cert.KernelIdeal.Gen

open Idealize.ShloMosaic Idealize.SL.Sem

variable {F : FTy → Type} [FloatOps F]

/-- The cosines of the tile's angles. -/
def cosT (freq : Vec F S1x32 .f32) (pos : Vec F S1x512 .i32) : FVec F S32x512 .f32 := k0_pay212 (k0_pay210 pos) freq

/-- The sines of the tile's angles. -/
def sinT (freq : Vec F S1x32 .f32) (pos : Vec F S1x512 .i32) : FVec F S32x512 .f32 := k0_pay213 (k0_pay210 pos) freq

/-- The gradient of the tile's projections before it is quantised, one column a token. -/
def gT (m : Memref sig .tc .vmem S256x128 .f32) (Wr : Vec F S192x2x3584 .bf16) (Xr : Vec F S256x2x3584 .bf16) (dcv : Vec F S512x384 .bf16)
    (gcol : Vec F S384x128 .f32) (freq : Vec F S1x32 .f32) (pos : Vec F S1x512 .i32) (dk8 : Vec F S1x64x512 .bf16) : FVec F S448x512 .f32 :=
  let cs := cosT freq pos
  let sn := sinT freq pos
  let dk := k0_pay214 dk8
  k0_pay229 (k0_pay209 (k0_pay197 Wr Xr) (k0_pay198 dcv) (k0_pay199 gcol) (k0_pay200 Wr Xr))
    (turnV m 0 cs sn dk [])
    (turnV m 1 cs sn dk (turnL m 0 cs sn dk []))
    (turnV m 2 cs sn dk (turnL m 1 cs sn dk (turnL m 0 cs sn dk [])))
    (turnV m 3 cs sn dk (turnL m 2 cs sn dk (turnL m 1 cs sn dk (turnL m 0 cs sn dk []))))

/-- The block of the gain's gradient after the tile has put its sums into it. -/
def dgT (i : grid0.Coords) (Wr : Vec F S192x2x3584 .bf16) (Xr : Vec F S256x2x3584 .bf16) (dcv : Vec F S512x384 .bf16) (y : Vec F S8x384 .f32) : FVec F S8x384 .f32 :=
  k0_pay208 (k0_pay202 Wr Xr dcv) (k0_pay204 (k0_pay203 Wr Xr dcv)) (k0_pay205 (k0_pay201 Wr Xr dcv)) (k0_pay206 (k0_pay201 Wr Xr dcv)) k0_pay207 2#32
    (Scalar.remsi (BitVec.ofNat 32 (i 0).val) 2#32)
    (Scalar.andi (Scalar.xori (Scalar.cmpi .slt (Scalar.remsi (BitVec.ofNat 32 (i 0).val) 2#32) 0#32) 0#1) (Scalar.cmpi .ne (Scalar.remsi (BitVec.ofNat 32 (i 0).val) 2#32) 0#32))
    y

/-- The widened weight's first 384 rows. -/
def rowsW : Rect S224x2x3584 := Rect.unit ![0, 0, 0] (Shape.size S192x2x3584) inb_S224x2x3584_S192x2x3584_0_0_0

/-- The stores into the gradient of the input, at the first tile. -/
theorem valueRunA_L9 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    (valueRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).1 =
      [⟨(Rect.unit ![0, 0] (Shape.size S512x3584) inb_S512x3584_S512x3584_0_0), k0_pay1 (gradT (gT arg16 (View.readCov arg14.view (piecesW (k0_pay2 (View.readAt (Elt F) arg4.view (Rect.toLoadRect (Rect.unit ![0, 0] (Shape.size S448x112) inb_S448x112_S448x112_0_0)) (harg4.unread x3))) (fun j => (View.readAt (Elt F) arg3.view (Rect.toLoadRect (colsW j)) (harg3.unread x2)))) (Rect.toLoadRect rowsW)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readCov arg17.view [⟨(Rect.unit ![0, 0] (Shape.size S384x128) inb_S384x128_S384x128_0_0), k0_pay95 (View.readAt (Elt F) arg5.view (Rect.toLoadRect (Rect.unit ![0, 0] (Shape.size S1x384) inb_S1x384_S1x384_0_0)) (harg5.unread x4))⟩] (Rect.toLoadRect (Rect.unit ![0, 0] (Shape.size S384x128) inb_S384x128_S384x128_0_0))) (View.readAt (Elt F) arg6.view (Rect.toLoadRect (Rect.unit ![0, 0] (Shape.size S1x32) inb_S1x32_S1x32_0_0)) (harg6.unread x5)) (View.readAt (Elt F) arg7.view (Rect.toLoadRect (Rect.unit (k0_off1 i) (Shape.size S1x512) (k0_off1_inb i))) (harg7.unread x6)) (View.readAt (Elt F) arg9.view (Rect.toLoadRect (Rect.unit ![0, 0, 0] (Shape.size S1x64x512) inb_S1x64x512_S1x64x512_0_0_0)) (harg9.unread x8)))) (View.readCov arg14.view (piecesW (k0_pay2 (View.readAt (Elt F) arg4.view (Rect.toLoadRect (Rect.unit ![0, 0] (Shape.size S448x112) inb_S448x112_S448x112_0_0)) (harg4.unread x3))) (fun j => (View.readAt (Elt F) arg3.view (Rect.toLoadRect (colsW j)) (harg3.unread x2)))) (Rect.toLoadRect (Rect.unit ![0, 0, 0] (Shape.size S224x2x3584) inb_S224x2x3584_S224x2x3584_0_0_0)))⟩] := by
  rfl

/-- The stores into the gain's gradient, at the first tile. -/
theorem valueRunA_L10 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    (valueRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).2.1 =
      [⟨(Rect.unit ![0, 0] (Shape.size S8x384) inb_S8x384_S8x384_0_0), dgT i (View.readCov arg14.view (piecesW (k0_pay2 (View.readAt (Elt F) arg4.view (Rect.toLoadRect (Rect.unit ![0, 0] (Shape.size S448x112) inb_S448x112_S448x112_0_0)) (harg4.unread x3))) (fun j => (View.readAt (Elt F) arg3.view (Rect.toLoadRect (colsW j)) (harg3.unread x2)))) (Rect.toLoadRect rowsW)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readAt (Elt F) arg11.view (Rect.toLoadRect (Rect.unit ![0, 0] (Shape.size S8x384) inb_S8x384_S8x384_0_0)) (harg11.unread x10))⟩] := by
  rfl

/-- The stores into the codes, at the first tile. -/
theorem valueRunA_L11 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    (valueRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).2.2.1 =
      piecesC (gT arg16 (View.readCov arg14.view (piecesW (k0_pay2 (View.readAt (Elt F) arg4.view (Rect.toLoadRect (Rect.unit ![0, 0] (Shape.size S448x112) inb_S448x112_S448x112_0_0)) (harg4.unread x3))) (fun j => (View.readAt (Elt F) arg3.view (Rect.toLoadRect (colsW j)) (harg3.unread x2)))) (Rect.toLoadRect rowsW)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readCov arg17.view [⟨(Rect.unit ![0, 0] (Shape.size S384x128) inb_S384x128_S384x128_0_0), k0_pay95 (View.readAt (Elt F) arg5.view (Rect.toLoadRect (Rect.unit ![0, 0] (Shape.size S1x384) inb_S1x384_S1x384_0_0)) (harg5.unread x4))⟩] (Rect.toLoadRect (Rect.unit ![0, 0] (Shape.size S384x128) inb_S384x128_S384x128_0_0))) (View.readAt (Elt F) arg6.view (Rect.toLoadRect (Rect.unit ![0, 0] (Shape.size S1x32) inb_S1x32_S1x32_0_0)) (harg6.unread x5)) (View.readAt (Elt F) arg7.view (Rect.toLoadRect (Rect.unit (k0_off1 i) (Shape.size S1x512) (k0_off1_inb i))) (harg7.unread x6)) (View.readAt (Elt F) arg9.view (Rect.toLoadRect (Rect.unit ![0, 0, 0] (Shape.size S1x64x512) inb_S1x64x512_S1x64x512_0_0_0)) (harg9.unread x8))) := by
  rfl

/-- The stores into the scales, at the first tile. -/
theorem valueRunA_L12 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    (valueRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).2.2.2.1 =
      [⟨(Rect.unit ![0, 0, 0] (Shape.size S1x14x512) inb_S1x14x512_S1x14x512_0_0_0), scalesT (gT arg16 (View.readCov arg14.view (piecesW (k0_pay2 (View.readAt (Elt F) arg4.view (Rect.toLoadRect (Rect.unit ![0, 0] (Shape.size S448x112) inb_S448x112_S448x112_0_0)) (harg4.unread x3))) (fun j => (View.readAt (Elt F) arg3.view (Rect.toLoadRect (colsW j)) (harg3.unread x2)))) (Rect.toLoadRect rowsW)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readCov arg17.view [⟨(Rect.unit ![0, 0] (Shape.size S384x128) inb_S384x128_S384x128_0_0), k0_pay95 (View.readAt (Elt F) arg5.view (Rect.toLoadRect (Rect.unit ![0, 0] (Shape.size S1x384) inb_S1x384_S1x384_0_0)) (harg5.unread x4))⟩] (Rect.toLoadRect (Rect.unit ![0, 0] (Shape.size S384x128) inb_S384x128_S384x128_0_0))) (View.readAt (Elt F) arg6.view (Rect.toLoadRect (Rect.unit ![0, 0] (Shape.size S1x32) inb_S1x32_S1x32_0_0)) (harg6.unread x5)) (View.readAt (Elt F) arg7.view (Rect.toLoadRect (Rect.unit (k0_off1 i) (Shape.size S1x512) (k0_off1_inb i))) (harg7.unread x6)) (View.readAt (Elt F) arg9.view (Rect.toLoadRect (Rect.unit ![0, 0, 0] (Shape.size S1x64x512) inb_S1x64x512_S1x64x512_0_0_0)) (harg9.unread x8)))⟩] := by
  rfl

/-- The stores into the widened weight, at the first tile. -/
theorem valueRunA_LS0 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    (valueRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).2.2.2.2.1 =
      (piecesW (k0_pay2 (View.readAt (Elt F) arg4.view (Rect.toLoadRect (Rect.unit ![0, 0] (Shape.size S448x112) inb_S448x112_S448x112_0_0)) (harg4.unread x3))) (fun j => (View.readAt (Elt F) arg3.view (Rect.toLoadRect (colsW j)) (harg3.unread x2)))) := by
  rfl

/-- The stores into the gain column, at the first tile. -/
theorem valueRunA_LS3 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) :
    (valueRunA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).2.2.2.2.2.1 =
      [⟨(Rect.unit ![0, 0] (Shape.size S384x128) inb_S384x128_S384x128_0_0), k0_pay95 (View.readAt (Elt F) arg5.view (Rect.toLoadRect (Rect.unit ![0, 0] (Shape.size S1x384) inb_S1x384_S1x384_0_0)) (harg5.unread x4))⟩] := by
  rfl

/-- The stores into the gradient of the input, at a later tile. -/
theorem valueRunB_L9 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : ¬cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) (xs0 : Vec F S224x2x3584 .bf16) (xs3 : Vec F S384x128 .f32) :
    (valueRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 xs0 xs3).1 =
      [⟨(Rect.unit ![0, 0] (Shape.size S512x3584) inb_S512x3584_S512x3584_0_0), k0_pay1 (gradT (gT arg16 (View.readAt (Elt F) arg14.view (Rect.toLoadRect rowsW) (harg14.unread xs0)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readAt (Elt F) arg17.view (Rect.toLoadRect (Rect.unit ![0, 0] (Shape.size S384x128) inb_S384x128_S384x128_0_0)) (harg17.unread xs3)) (View.readAt (Elt F) arg6.view (Rect.toLoadRect (Rect.unit ![0, 0] (Shape.size S1x32) inb_S1x32_S1x32_0_0)) (harg6.unread x5)) (View.readAt (Elt F) arg7.view (Rect.toLoadRect (Rect.unit (k0_off1 i) (Shape.size S1x512) (k0_off1_inb i))) (harg7.unread x6)) (View.readAt (Elt F) arg9.view (Rect.toLoadRect (Rect.unit ![0, 0, 0] (Shape.size S1x64x512) inb_S1x64x512_S1x64x512_0_0_0)) (harg9.unread x8)))) (View.readAt (Elt F) arg14.view (Rect.toLoadRect (Rect.unit ![0, 0, 0] (Shape.size S224x2x3584) inb_S224x2x3584_S224x2x3584_0_0_0)) (harg14.unread xs0))⟩] := by
  rfl

/-- The stores into the gain's gradient, at a later tile. -/
theorem valueRunB_L10 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : ¬cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) (xs0 : Vec F S224x2x3584 .bf16) (xs3 : Vec F S384x128 .f32) :
    (valueRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 xs0 xs3).2.1 =
      [⟨(Rect.unit ![0, 0] (Shape.size S8x384) inb_S8x384_S8x384_0_0), dgT i (View.readAt (Elt F) arg14.view (Rect.toLoadRect rowsW) (harg14.unread xs0)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readAt (Elt F) arg11.view (Rect.toLoadRect (Rect.unit ![0, 0] (Shape.size S8x384) inb_S8x384_S8x384_0_0)) (harg11.unread x10))⟩] := by
  rfl

/-- The stores into the codes, at a later tile. -/
theorem valueRunB_L11 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : ¬cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) (xs0 : Vec F S224x2x3584 .bf16) (xs3 : Vec F S384x128 .f32) :
    (valueRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 xs0 xs3).2.2.1 =
      piecesC (gT arg16 (View.readAt (Elt F) arg14.view (Rect.toLoadRect rowsW) (harg14.unread xs0)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readAt (Elt F) arg17.view (Rect.toLoadRect (Rect.unit ![0, 0] (Shape.size S384x128) inb_S384x128_S384x128_0_0)) (harg17.unread xs3)) (View.readAt (Elt F) arg6.view (Rect.toLoadRect (Rect.unit ![0, 0] (Shape.size S1x32) inb_S1x32_S1x32_0_0)) (harg6.unread x5)) (View.readAt (Elt F) arg7.view (Rect.toLoadRect (Rect.unit (k0_off1 i) (Shape.size S1x512) (k0_off1_inb i))) (harg7.unread x6)) (View.readAt (Elt F) arg9.view (Rect.toLoadRect (Rect.unit ![0, 0, 0] (Shape.size S1x64x512) inb_S1x64x512_S1x64x512_0_0_0)) (harg9.unread x8))) := by
  rfl

/-- The stores into the scales, at a later tile. -/
theorem valueRunB_L12 (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : ¬cond0_0 i) (x0 : Vec F S512x3584 .fp8e4m3) (x1 : Vec F S1x112x512 .i8) (x2 : Vec F S448x3584 .fp8e4m3) (x3 : Vec F S448x112 .i8) (x4 : Vec F S1x384 .f32) (x5 : Vec F S1x32 .f32) (x6 : Vec F S2x512 .i32) (x7 : Vec F S512x384 .bf16) (x8 : Vec F S1x64x512 .bf16) (x10 : Vec F S8x384 .f32) (xs0 : Vec F S224x2x3584 .bf16) (xs3 : Vec F S384x128 .f32) :
    (valueRunB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 xs0 xs3).2.2.2.1 =
      [⟨(Rect.unit ![0, 0, 0] (Shape.size S1x14x512) inb_S1x14x512_S1x14x512_0_0_0), scalesT (gT arg16 (View.readAt (Elt F) arg14.view (Rect.toLoadRect rowsW) (harg14.unread xs0)) (View.readCov arg15.view (piecesX (k0_pay96 (View.readAt (Elt F) arg2.view (Rect.toLoadRect (Rect.unit ![0, 0, 0] (Shape.size S1x112x512) inb_S1x112x512_S1x112x512_0_0_0)) (harg2.unread x1))) (fun j => (View.readAt (Elt F) arg1.view (Rect.toLoadRect (colsX j)) (harg1.unread x0)))) (Rect.toLoadRect (Rect.unit ![0, 0, 0] (Shape.size S256x2x3584) inb_S256x2x3584_S256x2x3584_0_0_0))) (View.readAt (Elt F) arg8.view (Rect.toLoadRect (Rect.unit ![0, 0] (Shape.size S512x384) inb_S512x384_S512x384_0_0)) (harg8.unread x7)) (View.readAt (Elt F) arg17.view (Rect.toLoadRect (Rect.unit ![0, 0] (Shape.size S384x128) inb_S384x128_S384x128_0_0)) (harg17.unread xs3)) (View.readAt (Elt F) arg6.view (Rect.toLoadRect (Rect.unit ![0, 0] (Shape.size S1x32) inb_S1x32_S1x32_0_0)) (harg6.unread x5)) (View.readAt (Elt F) arg7.view (Rect.toLoadRect (Rect.unit (k0_off1 i) (Shape.size S1x512) (k0_off1_inb i))) (harg7.unread x6)) (View.readAt (Elt F) arg9.view (Rect.toLoadRect (Rect.unit ![0, 0, 0] (Shape.size S1x64x512) inb_S1x64x512_S1x64x512_0_0_0)) (harg9.unread x8)))⟩] := by
  rfl

end Cert.KernelIdeal.Gen
-- ==== Proof.TileValue.lean ====
/- The values one tile stores, in the mathematics' own terms. -/
module

public import proofs.«01_k».proof.Proof.Tile

@[expose] public section

set_option maxRecDepth 65536

noncomputable section

namespace Cert.Spec

open Idealize.ShloMosaic Idealize.SL.Sem

/-- The gradient row of one token before it is quantised. -/
def rowS (W : Fin 448 → Fin 3584 → EReal) (X : Fin 3584 → EReal) (dcf gain : Fin 384 → EReal) (ang : Fin 32 → EReal) (dk : Fin 64 → EReal) (k : Fin 448) : EReal :=
  gS (dcS (cS W X) dcf gain)
    (fun j => ropeS (ang ⟨j.val / 2, by omega⟩) (dk ⟨2 * (j.val / 2), by omega⟩) (dk ⟨2 * (j.val / 2) + 1, by omega⟩) (j.val % 2)) k

end Cert.Spec

namespace Cert.KernelIdeal.Gen

open Idealize.ShloMosaic Idealize.SL.Sem Cert.Spec

/-- A position as a real number. -/
def posS (p : BitVec 32) : EReal := Scalar.sitofp (F := Ideal) .f32 p

theorem cosT_apply (freq : Vec Ideal S1x32 .f32) (pos : Vec Ideal S1x512 .i32) (h : Fin 32) (c : Fin 512) :
    cosT freq pos (ix2 h c) = Ideal.cos (posS (pos (ix2 0 c)) * freq (ix2 0 h)) := by
  unfold cosT
  pointwise [k0_pay212, k0_pay211, k0_pay210]
  rfl

theorem sinT_apply (freq : Vec Ideal S1x32 .f32) (pos : Vec Ideal S1x512 .i32) (h : Fin 32) (c : Fin 512) :
    sinT freq pos (ix2 h c) = Ideal.sin (posS (pos (ix2 0 c)) * freq (ix2 0 h)) := by
  unfold sinT
  pointwise [k0_pay213, k0_pay211, k0_pay210]
  rfl

theorem dk_apply (x : Vec Ideal S1x64x512 .bf16) (j : Fin 64) (c : Fin 512) : k0_pay214 (F := Ideal) x (ix2 j c) = x (ix3 0 j c) := by
  pointwise [k0_pay214]

theorem gcol_apply (x : Vec Ideal S1x384 .f32) (k : Fin 384) (l : Fin 128) : k0_pay95 (F := Ideal) x (ix2 k l) = x (ix2 0 k) := by
  pointwise [k0_pay95]

theorem gT_apply (W : Fin 448 → Fin 3584 → EReal) (X : Fin 512 → Fin 3584 → EReal)
    (m : Memref sig .tc .vmem S256x128 .f32) (Wr : Vec Ideal S192x2x3584 .bf16) (Xr : Vec Ideal S256x2x3584 .bf16) (dcv : Vec Ideal S512x384 .bf16)
    (gcol : Vec Ideal S384x128 .f32) (freq : Vec Ideal S1x32 .f32) (pos : Vec Ideal S1x512 .i32) (dk8 : Vec Ideal S1x64x512 .bf16)
    (gain : Fin 384 → EReal) (hg : ∀ (k : Fin 384) (x : Fin 128), gcol (ix2 k x) = gain k)
    (hW : ∀ (r : Fin 192) (q : Fin 2) (d : Fin 3584), Wr (ix3 r q d) = W ⟨2 * r.val + q.val, by omega⟩ d)
    (hX : ∀ (r : Fin 256) (q : Fin 2) (d : Fin 3584), Xr (ix3 r q d) = X ⟨2 * r.val + q.val, by omega⟩ d) (k : Fin 448) (c : Fin 512) :
    gT m Wr Xr dcv gcol freq pos dk8 (ix2 k c) =
      rowS W (X c) (dcR dcv c) gain (fun h => posS (pos (ix2 0 c)) * freq (ix2 0 h)) (fun j => dk8 (ix3 0 j c)) k := by
  have hc := c.isLt
  unfold gT
  refine (g_apply _ _ _ _ _ k c).trans ?_
  unfold rowS
  refine congrArg₂ (fun a b => gS a b k) (funext fun k => ?_) (funext fun j => ?_)
  · exact dc_apply W X Wr Xr dcv gcol gain hg hW hX k c
  · have key : ∀ (q : Fin 4) (l : Fin 128) (L : List (View.Piece (Elt Ideal) S256x128 .f32)), 128 * q.val + l.val = c.val →
        turnV m q (cosT freq pos) (sinT freq pos) (k0_pay214 dk8) L (ix2 j l) =
          ropeS (posS (pos (ix2 0 c)) * freq (ix2 0 ⟨j.val / 2, by omega⟩)) (dk8 (ix3 0 ⟨2 * (j.val / 2), by omega⟩ c)) (dk8 (ix3 0 ⟨2 * (j.val / 2) + 1, by omega⟩ c)) (j.val % 2) := by
      intro q l L e
      rw [turnV_apply m q (fun h c => posS (pos (ix2 0 c)) * freq (ix2 0 h)) _ _ _ (cosT_apply freq pos) (sinT_apply freq pos), dk_apply, dk_apply]
      have e' : (⟨128 * q.val + l.val, by omega⟩ : Fin 512) = c := Fin.ext e
      rw [e']
    have hq : c.val / 128 < 4 := by omega
    have e : 128 * (c.val / 128) + c.val % 128 = c.val := by omega
    generalize hQ : (⟨c.val / 128, by omega⟩ : Fin 4) = Q
    have hv : c.val / 128 = Q.val := congrArg Fin.val hQ
    rw [hv] at e
    match Q, e with
    | ⟨0, _⟩, e => exact key 0 _ _ e
    | ⟨1, _⟩, e => exact key 1 _ _ e
    | ⟨2, _⟩, e => exact key 2 _ _ e
    | ⟨3, _⟩, e => exact key 3 _ _ e

theorem dx_apply (W : Fin 448 → Fin 3584 → EReal) (g : FVec Ideal S448x512 .f32) (Wf : Vec Ideal S224x2x3584 .bf16)
    (hW : ∀ (r : Fin 224) (q : Fin 2) (d : Fin 3584), Wf (ix3 r q d) = W ⟨2 * r.val + q.val, by omega⟩ d) (c : Fin 512) (d : Fin 3584) :
    k0_pay1 (F := Ideal) (gradT g) Wf (ix2 c d) = dxS W (rowG g c) d := by
  pointwise [k0_pay1]
  unfold dxS
  refine Finset.sum_congr rfl fun k _ => ?_
  rw [gradT_apply]
  have hk := k.isLt
  refine congrArg (fun z => gradS (rowG g c) k * z) ?_
  split
  · rename_i he
    exact (hW ⟨k.val / 2, by omega⟩ 0 d).trans (congrArg (fun z => W z d) (Fin.ext (by show 2 * (k.val / 2) + 0 = k.val; omega)))
  · rename_i he
    exact (hW ⟨k.val / 2, by omega⟩ 1 d).trans (congrArg (fun z => W z d) (Fin.ext (by show 2 * (k.val / 2) + 1 = k.val; omega)))

/-! ## What the tile reads -/

theorem readW {s : Shape} {e : EltTy} (m : Memref sig .tc .vmem s e) (h : m.IsWhole) (X : Vec Ideal s e) (off : Fin s.rank → Nat) (ho : ∀ a, off a = 0)
    (inb : ∀ a, off a + s.size a ≤ s.size a) :
    View.readAt (Elt Ideal) m.view (Rect.toLoadRect (Rect.unit off s.size inb)) (h.unread X) = X := by
  funext x
  refine (h.readAt_unread X _ x).trans (congrArg X (funext fun a => Fin.ext ?_))
  show off a + 1 * (x a).val = (x a).val
  rw [ho a]; omega

/-- The input's row of the tile: its codes times its scales. -/
def Xm (x0 : Vec Ideal S512x3584 .fp8e4m3) (x1 : Vec Ideal S1x112x512 .i8) (c : Fin 512) (d : Fin 3584) : EReal :=
  x0 (ix2 c d) * dec (x1 (ix3 0 ⟨d.val / 32, by omega⟩ c))

/-- The weight: its codes times its scales. -/
def Wm (x2 : Vec Ideal S448x3584 .fp8e4m3) (x3 : Vec Ideal S448x112 .i8) (k : Fin 448) (d : Fin 3584) : EReal :=
  x2 (ix2 k d) * dec (x3 (ix2 k ⟨d.val / 32, by omega⟩))

theorem widenedX (a : Memref sig .tc .vmem S512x3584 .fp8e4m3) (ha : a.IsWhole) (b : Memref sig .tc .vmem S1x112x512 .i8) (hb : b.IsWhole)
    (x : Vec Ideal S512x3584 .fp8e4m3) (s : Vec Ideal S1x112x512 .i8) (r : Fin 256) (q : Fin 2) (d : Fin 3584) :
    View.canon (piecesX (F := Ideal) (k0_pay96 (View.readAt (Elt Ideal) b.view (Rect.toLoadRect (Rect.unit ![0, 0, 0] (Shape.size S1x112x512) inb_S1x112x512_S1x112x512_0_0_0)) (hb.unread s)))
        (fun j => View.readAt (Elt Ideal) a.view (Rect.toLoadRect (colsX j)) (ha.unread x))) (ix3 r q d) = Xm x s ⟨2 * r.val + q.val, by omega⟩ d := by
  have hd := d.isLt
  refine (canonX _ _ r q d).trans ?_
  rw [readW b hb s ![0, 0, 0] (fun a => match a with | ⟨0, _⟩ => rfl | ⟨1, _⟩ => rfl | ⟨2, _⟩ => rfl)]
  have hp := packed_x s r q ⟨d.val / 32, by omega⟩
  refine congrArg₂ (· * ·) (ha.readAt_unread _ _ _) ((congrArg (Ideal.ofBits .bf16) hp).trans (dec_eq _)) |>.trans ?_
  unfold Xm
  refine congrArg (fun z => x z * _) (funext fun a => Fin.ext ?_)
  match a with
  | ⟨0, _⟩ => show 0 + 1 * (2 * r.val + q.val) = 2 * r.val + q.val; omega
  | ⟨1, _⟩ => show 128 * (d.val / 128) + 1 * (d.val % 128) = d.val; omega

theorem widenedW (a : Memref sig .tc .vmem S448x3584 .fp8e4m3) (ha : a.IsWhole) (b : Memref sig .tc .vmem S448x112 .i8) (hb : b.IsWhole)
    (x : Vec Ideal S448x3584 .fp8e4m3) (s : Vec Ideal S448x112 .i8) (r : Fin 224) (q : Fin 2) (d : Fin 3584) :
    View.canon (piecesW (F := Ideal) (k0_pay2 (View.readAt (Elt Ideal) b.view (Rect.toLoadRect (Rect.unit ![0, 0] (Shape.size S448x112) inb_S448x112_S448x112_0_0)) (hb.unread s)))
        (fun j => View.readAt (Elt Ideal) a.view (Rect.toLoadRect (colsW j)) (ha.unread x))) (ix3 r q d) = Wm x s ⟨2 * r.val + q.val, by omega⟩ d := by
  have hd := d.isLt
  refine (canonW _ _ r q d).trans ?_
  rw [readW b hb s ![0, 0] (fun a => match a with | ⟨0, _⟩ => rfl | ⟨1, _⟩ => rfl)]
  have hp := packed_w s r q ⟨d.val / 32, by omega⟩
  refine congrArg₂ (· * ·) (ha.readAt_unread _ _ _) ((congrArg (Ideal.ofBits .bf16) hp).trans (dec_eq _)) |>.trans ?_
  unfold Wm
  refine congrArg (fun z => x z * _) (funext fun a => Fin.ext ?_)
  match a with
  | ⟨0, _⟩ => show 0 + 1 * (2 * r.val + q.val) = 2 * r.val + q.val; omega
  | ⟨1, _⟩ => show 128 * (d.val / 128) + 1 * (d.val % 128) = d.val; omega

end Cert.KernelIdeal.Gen
-- ==== Proof.TileOut.lean ====
/- What one tile leaves in its outputs and in the scratch it carries, in the mathematics' own terms. -/
module

public import proofs.«01_k».proof.Proof.TileValue

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Spec
open Idealize.ShloMosaic.Pipeline (Dat Cfg Window BodyObligation cellOf)

local notation "𝕄" => MT nD τ sig Unit (Elt Ideal) ℕ (UR sig nD τ) ℕ

/-- A tile of the grid is one of the sixty. -/
theorem tile_lt (i : grid0.Coords) : (i 0).val < 60 := (i 0).isLt

/-- The row of the positions a tile reads: one batch is thirty tiles. -/
def rowP (i : grid0.Coords) : Fin 2 := ⟨(i 0).val / 30, by have := tile_lt i; omega⟩

theorem off1_word : ∀ i : Fin 60, (Scalar.indexCast (Scalar.select
    (Scalar.andi (Scalar.cmpi .ne (Scalar.subi (Scalar.extui (Scalar.cmpi .sgt (BitVec.ofNat 32 i.val) 0#32)) (Scalar.extui (Scalar.cmpi .slt (BitVec.ofNat 32 i.val) 0#32)))
        (Scalar.subi (Scalar.extui (Scalar.cmpi .sgt 30#32 0#32)) (Scalar.extui (Scalar.cmpi .slt 30#32 0#32))))
      (Scalar.cmpi .ne (Scalar.remsi (BitVec.ofNat 32 i.val) 30#32) 0#32))
    (Scalar.subi (Scalar.divsi (BitVec.ofNat 32 i.val) 30#32) 1#32) (Scalar.divsi (BitVec.ofNat 32 i.val) 30#32) : BitVec 32) : BitVec 32).toNat = i.val / 30 := by
  decide +kernel

theorem off1_eq (i : grid0.Coords) : k0_off1 i 0 = (rowP i).val := off1_word (i 0)

/-- The gradient row of token `c` of the tile, before it is quantised. -/
def gRow (i : grid0.Coords) (x0 : Vec Ideal S512x3584 .fp8e4m3) (x1 : Vec Ideal S1x112x512 .i8) (x2 : Vec Ideal S448x3584 .fp8e4m3) (x3 : Vec Ideal S448x112 .i8)
    (x4 : Vec Ideal S1x384 .f32) (x5 : Vec Ideal S1x32 .f32) (x6 : Vec Ideal S2x512 .i32) (x7 : Vec Ideal S512x384 .bf16) (x8 : Vec Ideal S1x64x512 .bf16)
    (c : Fin 512) (k : Fin 448) : EReal :=
  rowS (Wm x2 x3) (Xm x0 x1 c) (dcR x7 c) (fun k => x4 (ix2 0 k)) (fun h => posS (x6 (ix2 (rowP i) c)) * x5 (ix2 0 h)) (fun j => x8 (ix3 0 j c)) k

/-- The tile of the gradient of the input. -/
def dxO (i : grid0.Coords) (x0 : Vec Ideal S512x3584 .fp8e4m3) (x1 : Vec Ideal S1x112x512 .i8) (x2 : Vec Ideal S448x3584 .fp8e4m3) (x3 : Vec Ideal S448x112 .i8)
    (x4 : Vec Ideal S1x384 .f32) (x5 : Vec Ideal S1x32 .f32) (x6 : Vec Ideal S2x512 .i32) (x7 : Vec Ideal S512x384 .bf16) (x8 : Vec Ideal S1x64x512 .bf16) : Vec Ideal S512x3584 .bf16 :=
  fun j => dxS (Wm x2 x3) (gRow i x0 x1 x2 x3 x4 x5 x6 x7 x8 (j 0)) (j 1)

/-- The tile of the codes. -/
def codesO (i : grid0.Coords) (x0 : Vec Ideal S512x3584 .fp8e4m3) (x1 : Vec Ideal S1x112x512 .i8) (x2 : Vec Ideal S448x3584 .fp8e4m3) (x3 : Vec Ideal S448x112 .i8)
    (x4 : Vec Ideal S1x384 .f32) (x5 : Vec Ideal S1x32 .f32) (x6 : Vec Ideal S2x512 .i32) (x7 : Vec Ideal S512x384 .bf16) (x8 : Vec Ideal S1x64x512 .bf16) : Vec Ideal S1x448x512 .fp8e5m2 :=
  fun j => codeS (gRow i x0 x1 x2 x3 x4 x5 x6 x7 x8 (j 2)) (j 1)

/-- The tile of the scales. -/
def scalesO (i : grid0.Coords) (x0 : Vec Ideal S512x3584 .fp8e4m3) (x1 : Vec Ideal S1x112x512 .i8) (x2 : Vec Ideal S448x3584 .fp8e4m3) (x3 : Vec Ideal S448x112 .i8)
    (x4 : Vec Ideal S1x384 .f32) (x5 : Vec Ideal S1x32 .f32) (x6 : Vec Ideal S2x512 .i32) (x7 : Vec Ideal S512x384 .bf16) (x8 : Vec Ideal S1x64x512 .bf16) : Vec Ideal S1x14x512 .i8 :=
  fun j => scaleS (gRow i x0 x1 x2 x3 x4 x5 x6 x7 x8 (j 2)) (j 1)

/-- The block of the gain's partial gradients after the tile: its own four rows are the tile's sums, the others are what the block held. -/
def dgO (i : grid0.Coords) (x0 : Vec Ideal S512x3584 .fp8e4m3) (x1 : Vec Ideal S1x112x512 .i8) (x2 : Vec Ideal S448x3584 .fp8e4m3) (x3 : Vec Ideal S448x112 .i8)
    (x7 : Vec Ideal S512x384 .bf16) (y : Vec Ideal S8x384 .f32) : Vec Ideal S8x384 .f32 :=
  fun j => if (j 0).val / 4 = (i 0).val % 2 then sumS (Wm x2 x3) (Xm x0 x1) x7 ⟨(j 0).val % 4, Nat.mod_lt _ (by omega)⟩ (j 1) else y j

/-- The widened weight, two of its rows to a row. -/
def scrW (x2 : Vec Ideal S448x3584 .fp8e4m3) (x3 : Vec Ideal S448x112 .i8) : Vec Ideal S224x2x3584 .bf16 :=
  fun j => Wm x2 x3 ⟨2 * (j 0).val + (j 1).val, by have h0 : (j 0).val < 224 := (j 0).isLt; have h1 : (j 1).val < 2 := (j 1).isLt; omega⟩ (j 2)

/-- The gain as a column. -/
def scrG (x4 : Vec Ideal S1x384 .f32) : Vec Ideal S384x128 .f32 := fun j => x4 (ix2 0 (j 0))

/-- One store of the whole buffer leaves its payload. -/
theorem canonWhole {s : Shape} {e : EltTy} (off : Fin s.rank → Nat) (ho : ∀ a, off a = 0) (inb : ∀ a, off a + s.size a ≤ s.size a) (v : Vec Ideal s e) :
    View.canon (Val := Elt Ideal) [⟨Rect.unit off s.size inb, v⟩] = v := by
  funext x
  have hx : (Rect.unit off s.size inb).emb x = x := funext fun a => Fin.ext (by show off a + 1 * (x a).val = (x a).val; rw [ho a]; omega)
  exact (congrArg (View.canon (Val := Elt Ideal) [⟨Rect.unit off s.size inb, v⟩]) hx.symm).trans
    (View.canon_cons_emb (Val := Elt Ideal) (e := e) (Rect.unit off s.size inb) v [] x)

/-- What the tile's computation is handed, in terms of the blocks. -/
structure TileIn (i : grid0.Coords) (x0 : Vec Ideal S512x3584 .fp8e4m3) (x1 : Vec Ideal S1x112x512 .i8) (x2 : Vec Ideal S448x3584 .fp8e4m3) (x3 : Vec Ideal S448x112 .i8)
    (x4 : Vec Ideal S1x384 .f32) (x5 : Vec Ideal S1x32 .f32) (x6 : Vec Ideal S2x512 .i32) (x7 : Vec Ideal S512x384 .bf16) (x8 : Vec Ideal S1x64x512 .bf16)
    (Wr : Vec Ideal S192x2x3584 .bf16) (Wf : Vec Ideal S224x2x3584 .bf16) (Xr : Vec Ideal S256x2x3584 .bf16) (dcv : Vec Ideal S512x384 .bf16) (gcol : Vec Ideal S384x128 .f32)
    (freq : Vec Ideal S1x32 .f32) (pos : Vec Ideal S1x512 .i32) (dk8 : Vec Ideal S1x64x512 .bf16) : Prop where
  hW : ∀ (r : Fin 192) (q : Fin 2) (d : Fin 3584), Wr (ix3 r q d) = Wm x2 x3 ⟨2 * r.val + q.val, ltW r q⟩ d
  hWf : ∀ (r : Fin 224) (q : Fin 2) (d : Fin 3584), Wf (ix3 r q d) = Wm x2 x3 ⟨2 * r.val + q.val, by omega⟩ d
  hX : ∀ (r : Fin 256) (q : Fin 2) (d : Fin 3584), Xr (ix3 r q d) = Xm x0 x1 ⟨2 * r.val + q.val, ltX r q⟩ d
  hdc : dcv = x7
  hg : ∀ (k : Fin 384) (l : Fin 128), gcol (ix2 k l) = x4 (ix2 0 k)
  hfreq : freq = x5
  hpos : ∀ c : Fin 512, pos (ix2 0 c) = x6 (ix2 (rowP i) c)
  hdk : dk8 = x8

section
variable {i : grid0.Coords} {x0 : Vec Ideal S512x3584 .fp8e4m3} {x1 : Vec Ideal S1x112x512 .i8} {x2 : Vec Ideal S448x3584 .fp8e4m3} {x3 : Vec Ideal S448x112 .i8}
    {x4 : Vec Ideal S1x384 .f32} {x5 : Vec Ideal S1x32 .f32} {x6 : Vec Ideal S2x512 .i32} {x7 : Vec Ideal S512x384 .bf16} {x8 : Vec Ideal S1x64x512 .bf16}
    {Wr : Vec Ideal S192x2x3584 .bf16} {Wf : Vec Ideal S224x2x3584 .bf16} {Xr : Vec Ideal S256x2x3584 .bf16} {dcv : Vec Ideal S512x384 .bf16} {gcol : Vec Ideal S384x128 .f32}
    {freq : Vec Ideal S1x32 .f32} {pos : Vec Ideal S1x512 .i32} {dk8 : Vec Ideal S1x64x512 .bf16}
    (T : TileIn i x0 x1 x2 x3 x4 x5 x6 x7 x8 Wr Wf Xr dcv gcol freq pos dk8) (m : Memref sig .tc .vmem S256x128 .f32)
include T

/-- The gradient rows of the tile. -/
theorem rowG_tile (c : Fin 512) : rowG (gT m Wr Xr dcv gcol freq pos dk8) c = gRow i x0 x1 x2 x3 x4 x5 x6 x7 x8 c := by
  funext k
  refine (gT_apply (Wm x2 x3) (Xm x0 x1) m Wr Xr dcv gcol freq pos dk8 (fun k => x4 (ix2 0 k)) T.hg T.hW T.hX k c).trans ?_
  unfold gRow
  rw [T.hdc, T.hfreq, T.hdk, T.hpos]

/-- The gradient of the input. -/
theorem dx_tile : k0_pay1 (F := Ideal) (gradT (gT m Wr Xr dcv gcol freq pos dk8)) Wf = dxO i x0 x1 x2 x3 x4 x5 x6 x7 x8 := by
  funext j
  obtain ⟨c, d, rfl⟩ : ∃ (c : Fin 512) (d : Fin 3584), j = ix2 c d := ⟨_, _, eq_ix2 j⟩
  refine (dx_apply (Wm x2 x3) _ Wf T.hWf c d).trans ?_
  rw [rowG_tile T m c]
  rfl

/-- The codes. -/
theorem codes_tile : View.canon (piecesC (F := Ideal) (gT m Wr Xr dcv gcol freq pos dk8)) = codesO i x0 x1 x2 x3 x4 x5 x6 x7 x8 := by
  funext j
  obtain ⟨z, k, c, rfl⟩ : ∃ (z : Fin 1) (k : Fin 448) (c : Fin 512), j = ix3 z k c := ⟨_, _, _, eq_ix3 j⟩
  obtain rfl : z = 0 := Subsingleton.elim _ _
  refine (canonC _ k c).trans ?_
  rw [rowG_tile T m c]
  rfl

/-- The scales. -/
theorem scales_tile : scalesT (F := Ideal) (gT m Wr Xr dcv gcol freq pos dk8) = scalesO i x0 x1 x2 x3 x4 x5 x6 x7 x8 := by
  funext j
  obtain ⟨z, b, c, rfl⟩ : ∃ (z : Fin 1) (b : Fin 14) (c : Fin 512), j = ix3 z b c := ⟨_, _, _, eq_ix3 j⟩
  obtain rfl : z = 0 := Subsingleton.elim _ _
  refine (scalesT_apply _ b c).trans ?_
  rw [rowG_tile T m c]
  rfl

/-- The gain's partial gradients. -/
theorem dg_tile (y y' : Vec Ideal S8x384 .f32) (hy : y' = y) : dgT (F := Ideal) i Wr Xr dcv y' = dgO i x0 x1 x2 x3 x7 y := by
  subst hy
  funext j
  obtain ⟨r, k, rfl⟩ : ∃ (r : Fin 8) (k : Fin 384), j = ix2 r k := ⟨_, _, eq_ix2 j⟩
  have hr := r.isLt
  refine (dg_apply _ _ _ _ (i 0) y' r k).trans ?_
  show _ = if r.val / 4 = (i 0).val % 2 then sumS (Wm x2 x3) (Xm x0 x1) x7 ⟨r.val % 4, _⟩ k else y' (ix2 r k)
  refine if_congr Iff.rfl ?_ rfl
  rw [← T.hdc]
  have h : ∀ q : Fin 4, (![k0_pay202 (F := Ideal) Wr Xr dcv, k0_pay204 (F := Ideal) (k0_pay203 (F := Ideal) Wr Xr dcv), k0_pay205 (F := Ideal) (k0_pay201 (F := Ideal) Wr Xr dcv),
      k0_pay206 (F := Ideal) (k0_pay201 (F := Ideal) Wr Xr dcv)] q) (ix2 0 k) = sumS (Wm x2 x3) (Xm x0 x1) dcv q k := fun q =>
    match q with
    | 0 => sum0_apply _ _ Wr Xr dcv T.hW T.hX k
    | 1 => sum1_apply _ _ Wr Xr dcv T.hW T.hX k
    | 2 => sum2_apply _ _ Wr Xr dcv T.hW T.hX k
    | 3 => sum3_apply _ _ Wr Xr dcv T.hW T.hX k
  exact h ⟨r.val % 4, _⟩

end

end Cert.KernelIdeal.Gen

end
-- ==== Proof.TileRun.lean ====
/- One tile's body as a run: from whole buffers to the values it leaves. -/
module

public import proofs.«01_k».proof.Proof.TileOut

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Spec
open Idealize.ShloMosaic.Pipeline (Dat Cfg Window BodyObligation cellOf)

local notation "𝕄" => MT nD τ sig Unit (Elt Ideal) ℕ (UR sig nD τ) ℕ

/-- A buffer after stores that cover it holds their canon. -/
theorem written {s : Shape} {e : EltTy} (c : Dev nD) (a : Memref sig .tc .vmem s e) (f : a.view.ty.Contents (Elt Ideal))
    {L L' : List (View.Piece (Elt Ideal) s e)} {X : Vec Ideal s e} (h : L = L') (hc : ∀ y, ∃ p ∈ L', y ∈ p.1.set) (hX : View.canon L' = X) :
    (iprop(a.view.loc (c : Thread nD τ) ↦[a.view.set]{fullShare} a.view.writes (Elt Ideal) f L) : sProp 𝕄) ⊢ owns (c : Thread nD τ) a fullShare X := by
  subst h
  unfold owns
  iintro H
  iexists _; isplitr; swap
  · iexact H
  ipureintro
  exact (View.read_writes_eq_canon a.view f L hc).trans hX

/-- A buffer after stores holds something. -/
theorem writtenAny {s : Shape} {e : EltTy} (c : Dev nD) (a : Memref sig .tc .vmem s e) (L : List (View.Piece (Elt Ideal) s e)) :
    (iprop(∃ f, a.view.loc (c : Thread nD τ) ↦[a.view.set]{fullShare} a.view.writes (Elt Ideal) f L) : sProp 𝕄) ⊢ iprop(∃ d, owns (c : Thread nD τ) a fullShare d) := by
  iintro ⟨%f, H⟩
  iexists _
  unfold owns
  iexists _; isplitr; swap
  · iexact H
  ipureintro; rfl

/-- One store of the whole buffer covers it. -/
theorem coverWhole {s : Shape} {e : EltTy} (off : Fin s.rank → Nat) (ho : ∀ a, off a = 0) (inb : ∀ a, off a + s.size a ≤ s.size a) (v : Vec Ideal s e) :
    ∀ y, ∃ p ∈ ([⟨Rect.unit off s.size inb, v⟩] : List (View.Piece (Elt Ideal) s e)), y ∈ p.1.set := fun y =>
  ⟨_, List.mem_singleton.mpr rfl, by rw [Rect.mem_set_unit]; intro a; rw [ho a]; exact ⟨Nat.zero_le _, by rw [Nat.zero_add]; exact (y a).isLt⟩⟩

/-- The fourteen blocks of codes cover the tile. -/
theorem coverC (g : FVec Ideal S448x512 .f32) : ∀ y, ∃ p ∈ piecesC (F := Ideal) g, y ∈ p.1.set := fun y => by
  have h1 : (y 1).val < 448 := (y 1).isLt
  refine ⟨_, List.mem_map.mpr ⟨⟨(y 1).val / 32, by omega⟩, List.mem_reverse.mpr (List.mem_finRange _), rfl⟩, ?_⟩
  rw [Rect.mem_set_unit]
  intro a
  match a with
  | ⟨0, _⟩ => exact ⟨Nat.zero_le _, (y 0).isLt⟩
  | ⟨1, _⟩ => exact ⟨by show 32 * ((y 1).val / 32) ≤ (y 1).val; omega, by show (y 1).val < 32 * ((y 1).val / 32) + 32; omega⟩
  | ⟨2, _⟩ => exact ⟨Nat.zero_le _, (Nat.zero_add 512).symm ▸ (y 2).isLt⟩

/-- The 28 slices of the widened weight cover its buffer. -/
theorem coverW (p : IVec S224x128 32) (x : Fin 28 → Vec Ideal S448x128 .fp8e4m3) : ∀ y, ∃ q ∈ piecesW (F := Ideal) p x, y ∈ q.1.set := fun y => by
  have h2 : (y 2).val < 3584 := (y 2).isLt
  refine ⟨_, List.mem_map.mpr ⟨⟨(y 2).val / 128, by omega⟩, List.mem_reverse.mpr (List.mem_finRange _), rfl⟩, ?_⟩
  rw [Rect.mem_set_unit]
  intro a
  match a with
  | ⟨0, _⟩ => exact ⟨Nat.zero_le _, (Nat.zero_add 224).symm ▸ (y 0).isLt⟩
  | ⟨1, _⟩ => exact ⟨Nat.zero_le _, (Nat.zero_add 2).symm ▸ (y 1).isLt⟩
  | ⟨2, _⟩ => exact ⟨by show 128 * ((y 2).val / 128) ≤ (y 2).val; omega, by show (y 2).val < 128 * ((y 2).val / 128) + 128; omega⟩

theorem z2 : ∀ a : Fin 2, (![0, 0] : Fin 2 → Nat) a = 0 := fun a => match a with | ⟨0, _⟩ => rfl | ⟨1, _⟩ => rfl
theorem z3 : ∀ a : Fin 3, (![0, 0, 0] : Fin 3 → Nat) a = 0 := fun a => match a with | ⟨0, _⟩ => rfl | ⟨1, _⟩ => rfl | ⟨2, _⟩ => rfl

/-- A whole load of the widened weight just stored. -/
theorem storedW (v : View sig .tc .vmem S224x2x3584 .bf16) (a : Memref sig .tc .vmem S448x3584 .fp8e4m3) (ha : a.IsWhole) (b : Memref sig .tc .vmem S448x112 .i8) (hb : b.IsWhole)
    (x : Vec Ideal S448x3584 .fp8e4m3) (s : Vec Ideal S448x112 .i8) (r : Fin 224) (q : Fin 2) (d : Fin 3584) :
    View.readCov (Val := Elt Ideal) v (piecesW (F := Ideal) (k0_pay2 (View.readAt (Elt Ideal) b.view (Rect.toLoadRect (Rect.unit ![0, 0] (Shape.size S448x112) inb_S448x112_S448x112_0_0)) (hb.unread s)))
        (fun j => View.readAt (Elt Ideal) a.view (Rect.toLoadRect (colsW j)) (ha.unread x))) (Rect.toLoadRect (Rect.unit ![0, 0, 0] (Shape.size S224x2x3584) inb_S224x2x3584_S224x2x3584_0_0_0)) (ix3 r q d) = Wm x s ⟨2 * r.val + q.val, by omega⟩ d := by
  rw [View.readCov_eq_canon']
  refine (congrArg (View.canon _) (?_ : _ = ix3 r q d)).trans (widenedW a ha b hb x s r q d)
  funext z
  match z with
  | ⟨0, _⟩ => exact Fin.ext (by show 0 + 1 * r.val = r.val; omega)
  | ⟨1, _⟩ => exact Fin.ext (by show 0 + 1 * q.val = q.val; omega)
  | ⟨2, _⟩ => exact Fin.ext (by show 0 + 1 * d.val = d.val; omega)

/-- The load of the rows the first product takes, of the widened weight just stored. -/
theorem storedWr (v : View sig .tc .vmem S224x2x3584 .bf16) (a : Memref sig .tc .vmem S448x3584 .fp8e4m3) (ha : a.IsWhole) (b : Memref sig .tc .vmem S448x112 .i8) (hb : b.IsWhole)
    (x : Vec Ideal S448x3584 .fp8e4m3) (s : Vec Ideal S448x112 .i8) (r : Fin 192) (q : Fin 2) (d : Fin 3584) :
    View.readCov (Val := Elt Ideal) v (piecesW (F := Ideal) (k0_pay2 (View.readAt (Elt Ideal) b.view (Rect.toLoadRect (Rect.unit ![0, 0] (Shape.size S448x112) inb_S448x112_S448x112_0_0)) (hb.unread s)))
        (fun j => View.readAt (Elt Ideal) a.view (Rect.toLoadRect (colsW j)) (ha.unread x))) (Rect.toLoadRect rowsW) (ix3 r q d) = Wm x s ⟨2 * r.val + q.val, ltW r q⟩ d := by
  rw [View.readCov_eq_canon']
  refine (congrArg (View.canon _) (?_ : _ = ix3 (⟨r.val, by omega⟩ : Fin 224) q d)).trans (widenedW a ha b hb x s ⟨r.val, by omega⟩ q d)
  funext z
  match z with
  | ⟨0, _⟩ => exact Fin.ext (by show 0 + 1 * r.val = r.val; omega)
  | ⟨1, _⟩ => exact Fin.ext (by show 0 + 1 * q.val = q.val; omega)
  | ⟨2, _⟩ => exact Fin.ext (by show 0 + 1 * d.val = d.val; omega)

/-- The load of the widened input just stored. -/
theorem storedX (v : View sig .tc .vmem S256x2x3584 .bf16) (a : Memref sig .tc .vmem S512x3584 .fp8e4m3) (ha : a.IsWhole) (b : Memref sig .tc .vmem S1x112x512 .i8) (hb : b.IsWhole)
    (x : Vec Ideal S512x3584 .fp8e4m3) (s : Vec Ideal S1x112x512 .i8) (r : Fin 256) (q : Fin 2) (d : Fin 3584) :
    View.readCov (Val := Elt Ideal) v (piecesX (F := Ideal) (k0_pay96 (View.readAt (Elt Ideal) b.view (Rect.toLoadRect (Rect.unit ![0, 0, 0] (Shape.size S1x112x512) inb_S1x112x512_S1x112x512_0_0_0)) (hb.unread s)))
        (fun j => View.readAt (Elt Ideal) a.view (Rect.toLoadRect (colsX j)) (ha.unread x))) (Rect.toLoadRect (Rect.unit ![0, 0, 0] (Shape.size S256x2x3584) inb_S256x2x3584_S256x2x3584_0_0_0)) (ix3 r q d) = Xm x s ⟨2 * r.val + q.val, ltX r q⟩ d := by
  rw [View.readCov_eq_canon']
  refine (congrArg (View.canon _) (?_ : _ = ix3 r q d)).trans (widenedX a ha b hb x s r q d)
  funext z
  match z with
  | ⟨0, _⟩ => exact Fin.ext (by show 0 + 1 * r.val = r.val; omega)
  | ⟨1, _⟩ => exact Fin.ext (by show 0 + 1 * q.val = q.val; omega)
  | ⟨2, _⟩ => exact Fin.ext (by show 0 + 1 * d.val = d.val; omega)

/-- The load of the gain column just stored. -/
theorem storedG (v : View sig .tc .vmem S384x128 .f32) (b : Memref sig .tc .vmem S1x384 .f32) (hb : b.IsWhole) (x : Vec Ideal S1x384 .f32) (k : Fin 384) (l : Fin 128) :
    View.readCov (Val := Elt Ideal) v [⟨Rect.unit ![0, 0] (Shape.size S384x128) inb_S384x128_S384x128_0_0, k0_pay95 (F := Ideal) (View.readAt (Elt Ideal) b.view (Rect.toLoadRect (Rect.unit ![0, 0] (Shape.size S1x384) inb_S1x384_S1x384_0_0)) (hb.unread x))⟩]
      (Rect.toLoadRect (Rect.unit ![0, 0] (Shape.size S384x128) inb_S384x128_S384x128_0_0)) (ix2 k l) = x (ix2 0 k) := by
  refine (congrFun (View.readCov_eq_canon' v _ (Rect.toLoadRect (Rect.unit ![0, 0] (Shape.size S384x128) inb_S384x128_S384x128_0_0))) (ix2 k l)).trans ?_
  refine (congrFun (canonWhole (s := S384x128) (e := .f32) ![0, 0] z2 inb_S384x128_S384x128_0_0 _) _).trans ?_
  rw [readW b hb x ![0, 0] z2]
  refine (congrArg (k0_pay95 (F := Ideal) x) (?_ : _ = ix2 k l)).trans (gcol_apply x k l)
  funext z
  match z with
  | ⟨0, _⟩ => exact Fin.ext (by show 0 + 1 * k.val = k.val; omega)
  | ⟨1, _⟩ => exact Fin.ext (by show 0 + 1 * l.val = l.val; omega)

/-- The load of the tile's row of positions. -/
theorem readP (i : grid0.Coords) (b : Memref sig .tc .vmem S2x512 .i32) (hb : b.IsWhole) (x : Vec Ideal S2x512 .i32) (c : Fin 512) :
    View.readAt (Elt Ideal) b.view (Rect.toLoadRect (Rect.unit (k0_off1 i) (Shape.size S1x512) (k0_off1_inb i))) (hb.unread x) (ix2 0 c) = x (ix2 (rowP i) c) := by
  refine (hb.readAt_unread x _ _).trans (congrArg x (funext fun z => ?_))
  match z with
  | ⟨0, _⟩ => exact Fin.ext (by show k0_off1 i 0 + 1 * 0 = (rowP i).val; rw [off1_eq]; omega)
  | ⟨1, _⟩ => exact Fin.ext (by show 0 + 1 * c.val = c.val; omega)

/-- The rows the first product takes, in the widened weight. -/
theorem scrW_rows (x2 : Vec Ideal S448x3584 .fp8e4m3) (x3 : Vec Ideal S448x112 .i8) (r : Fin 192) (q : Fin 2) (d : Fin 3584) :
    scrW x2 x3 ((Rect.toLoadRect rowsW).idx (ix3 r q d)) = Wm x2 x3 ⟨2 * r.val + q.val, ltW r q⟩ d := by
  refine (congrArg (scrW x2 x3) (?_ : _ = ix3 (⟨r.val, by omega⟩ : Fin 224) q d)).trans rfl
  funext z
  match z with
  | ⟨0, _⟩ => exact Fin.ext (by show 0 + 1 * r.val = r.val; omega)
  | ⟨1, _⟩ => exact Fin.ext (by show 0 + 1 * q.val = q.val; omega)
  | ⟨2, _⟩ => exact Fin.ext (by show 0 + 1 * d.val = d.val; omega)

/-- What the slices leave is the widened weight. -/
theorem canonScrW (a : Memref sig .tc .vmem S448x3584 .fp8e4m3) (ha : a.IsWhole) (b : Memref sig .tc .vmem S448x112 .i8) (hb : b.IsWhole)
    (x : Vec Ideal S448x3584 .fp8e4m3) (s : Vec Ideal S448x112 .i8) :
    View.canon (piecesW (F := Ideal) (k0_pay2 (View.readAt (Elt Ideal) b.view (Rect.toLoadRect (Rect.unit ![0, 0] (Shape.size S448x112) inb_S448x112_S448x112_0_0)) (hb.unread s)))
        (fun j => View.readAt (Elt Ideal) a.view (Rect.toLoadRect (colsW j)) (ha.unread x))) = scrW x s := by
  funext j
  obtain ⟨r, q, d, rfl⟩ : ∃ (r : Fin 224) (q : Fin 2) (d : Fin 3584), j = ix3 r q d := ⟨_, _, _, eq_ix3 j⟩
  exact widenedW a ha b hb x s r q d

/-- What the first tile leaves for the gain is its column. -/
theorem canonScrG (b : Memref sig .tc .vmem S1x384 .f32) (hb : b.IsWhole) (x : Vec Ideal S1x384 .f32) :
    k0_pay95 (F := Ideal) (View.readAt (Elt Ideal) b.view (Rect.toLoadRect (Rect.unit ![0, 0] (Shape.size S1x384) inb_S1x384_S1x384_0_0)) (hb.unread x)) = scrG x := by
  rw [readW b hb x ![0, 0] z2]
  funext j
  obtain ⟨k, l, rfl⟩ : ∃ (k : Fin 384) (l : Fin 128), j = ix2 k l := ⟨_, _, eq_ix2 j⟩
  exact gcol_apply x k l

set_option maxHeartbeats 1000000 in
/-- The first tile: it also widens the weight and lays out the gain column. -/
theorem tileRunA (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : cond0_0 i)
    (x0 : Vec Ideal S512x3584 .fp8e4m3) (x1 : Vec Ideal S1x112x512 .i8) (x2 : Vec Ideal S448x3584 .fp8e4m3) (x3 : Vec Ideal S448x112 .i8) (x4 : Vec Ideal S1x384 .f32) (x5 : Vec Ideal S1x32 .f32) (x6 : Vec Ideal S2x512 .i32) (x7 : Vec Ideal S512x384 .bf16) (x8 : Vec Ideal S1x64x512 .bf16) (x10 : Vec Ideal S8x384 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxO i x0 x1 x2 x3 x4 x5 x6 x7 x8) ∗ owns (c : Thread nD τ) arg11 fullShare (dgO i x0 x1 x2 x3 x7 x10) ∗ owns (c : Thread nD τ) arg12 fullShare (codesO i x0 x1 x2 x3 x4 x5 x6 x7 x8) ∗ owns (c : Thread nD τ) arg13 fullShare (scalesO i x0 x1 x2 x3 x4 x5 x6 x7 x8) ∗ owns (c : Thread nD τ) arg14 fullShare (scrW x2 x3) ∗ (∃ d, owns (c : Thread nD τ) arg15 fullShare d) ∗ (∃ d, owns (c : Thread nD τ) arg16 fullShare d) ∗ owns (c : Thread nD τ) arg17 fullShare (scrG x4)) -∗ K ⟨⟩))
          ⊢ wp frame (wpE (defs₀ (F := Ideal)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have T := TileIn.mk (i := i) (x0 := x0) (x1 := x1) (x2 := x2) (x3 := x3) (x4 := x4) (x5 := x5) (x6 := x6) (x7 := x7) (x8 := x8)
    (fun r q d => storedWr arg14.view arg3 harg3 arg4 harg4 x2 x3 r q d) (fun r q d => storedW arg14.view arg3 harg3 arg4 harg4 x2 x3 r q d) (fun r q d => storedX arg15.view arg1 harg1 arg2 harg2 x0 x1 r q d) (readW arg8 harg8 x7 ![0, 0] z2 inb_S512x384_S512x384_0_0) (fun k l => storedG arg17.view arg5 harg5 x4 k l) (readW arg6 harg6 x5 ![0, 0] z2 inb_S1x32_S1x32_0_0) (fun c => readP i arg7 harg7 x6 c) (readW arg9 harg9 x8 ![0, 0, 0] z3 inb_S1x64x512_S1x64x512_0_0_0)
  have v9 := Eq.trans (canonWhole (s := S512x3584) (e := .bf16) ![0, 0] z2 inb_S512x3584_S512x3584_0_0 _) (dx_tile T arg16)
  have v10 := Eq.trans (canonWhole (s := S8x384) (e := .f32) ![0, 0] z2 inb_S8x384_S8x384_0_0 _) (dg_tile T x10 _ (readW arg11 harg11 x10 ![0, 0] z2 inb_S8x384_S8x384_0_0))
  have v11 := codes_tile T arg16
  have v12 := Eq.trans (canonWhole (s := S1x14x512) (e := .i8) ![0, 0, 0] z3 inb_S1x14x512_S1x14x512_0_0_0 _) (scales_tile T arg16)
  have v13 := canonScrW arg3 harg3 arg4 harg4 x2 x3
  have v16 := Eq.trans (canonWhole (s := S384x128) (e := .f32) ![0, 0] z2 inb_S384x128_S384x128_0_0 _) (canonScrG arg5 harg5 x4)
  iintro ⟨H0, H1, H2, H3, H4, H5, H6, H7, H8, H9, H10, H11, H12, H13, H14, H15, H16, Hk⟩
  iapply ((valueRunA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, ⟨%f9, H9⟩, ⟨%f10, H10⟩, ⟨%f11, H11⟩, ⟨%f12, H12⟩, ⟨%f13, H13⟩, H14, H15, ⟨%f16, H16⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (written c arg10 _ (valueRunA_L9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10) (coverWhole (s := S512x3584) (e := .bf16) ![0, 0] z2 inb_S512x3584_S512x3584_0_0 _) (v9)); iexact H9
  isplitl [H10]; · iapply (written c arg11 _ (valueRunA_L10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10) (coverWhole (s := S8x384) (e := .f32) ![0, 0] z2 inb_S8x384_S8x384_0_0 _) (v10)); iexact H10
  isplitl [H11]; · iapply (written c arg12 _ (valueRunA_L11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10) (coverC _) (v11)); iexact H11
  isplitl [H12]; · iapply (written c arg13 _ (valueRunA_L12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10) (coverWhole (s := S1x14x512) (e := .i8) ![0, 0, 0] z3 inb_S1x14x512_S1x14x512_0_0_0 _) (v12)); iexact H12
  isplitl [H13]; · iapply (written c arg14 _ (valueRunA_LS0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10) (coverW _ _) (v13)); iexact H13
  isplitl [H14]; · iapply (writtenAny c arg15 _); iexact H14
  isplitl [H15]; · iexact H15
  iapply (written c arg17 _ (valueRunA_LS3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10) (coverWhole (s := S384x128) (e := .f32) ![0, 0] z2 inb_S384x128_S384x128_0_0 _) (v16)); iexact H16

set_option maxHeartbeats 1000000 in
/-- A later tile: it finds the widened weight and the gain column in the scratch. -/
theorem tileRunB (c : Dev nD) (i : grid0.Coords) (arg1 : Memref sig .tc .vmem S512x3584 .fp8e4m3) (harg1 : arg1.IsWhole) (arg2 : Memref sig .tc .vmem S1x112x512 .i8) (harg2 : arg2.IsWhole) (arg3 : Memref sig .tc .vmem S448x3584 .fp8e4m3) (harg3 : arg3.IsWhole) (arg4 : Memref sig .tc .vmem S448x112 .i8) (harg4 : arg4.IsWhole) (arg5 : Memref sig .tc .vmem S1x384 .f32) (harg5 : arg5.IsWhole) (arg6 : Memref sig .tc .vmem S1x32 .f32) (harg6 : arg6.IsWhole) (arg7 : Memref sig .tc .vmem S2x512 .i32) (harg7 : arg7.IsWhole) (arg8 : Memref sig .tc .vmem S512x384 .bf16) (harg8 : arg8.IsWhole) (arg9 : Memref sig .tc .vmem S1x64x512 .bf16) (harg9 : arg9.IsWhole) (arg10 : Memref sig .tc .vmem S512x3584 .bf16) (harg10 : arg10.IsWhole) (arg11 : Memref sig .tc .vmem S8x384 .f32) (harg11 : arg11.IsWhole) (arg12 : Memref sig .tc .vmem S1x448x512 .fp8e5m2) (harg12 : arg12.IsWhole) (arg13 : Memref sig .tc .vmem S1x14x512 .i8) (harg13 : arg13.IsWhole) (arg14 : Memref sig .tc .vmem S224x2x3584 .bf16) (harg14 : arg14.IsWhole) (arg15 : Memref sig .tc .vmem S256x2x3584 .bf16) (harg15 : arg15.IsWhole) (arg16 : Memref sig .tc .vmem S256x128 .f32) (harg16 : arg16.IsWhole) (arg17 : Memref sig .tc .vmem S384x128 .f32) (harg17 : arg17.IsWhole) (hc0 : ¬cond0_0 i)
    (x0 : Vec Ideal S512x3584 .fp8e4m3) (x1 : Vec Ideal S1x112x512 .i8) (x2 : Vec Ideal S448x3584 .fp8e4m3) (x3 : Vec Ideal S448x112 .i8) (x4 : Vec Ideal S1x384 .f32) (x5 : Vec Ideal S1x32 .f32) (x6 : Vec Ideal S2x512 .i32) (x7 : Vec Ideal S512x384 .bf16) (x8 : Vec Ideal S1x64x512 .bf16) (x10 : Vec Ideal S8x384 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare x10 ∗ (∃ d, owns (c : Thread nD τ) arg12 fullShare d) ∗ (∃ d, owns (c : Thread nD τ) arg13 fullShare d) ∗ owns (c : Thread nD τ) arg14 fullShare (scrW x2 x3) ∗ (∃ d, owns (c : Thread nD τ) arg15 fullShare d) ∗ (∃ d, owns (c : Thread nD τ) arg16 fullShare d) ∗ owns (c : Thread nD τ) arg17 fullShare (scrG x4)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxO i x0 x1 x2 x3 x4 x5 x6 x7 x8) ∗ owns (c : Thread nD τ) arg11 fullShare (dgO i x0 x1 x2 x3 x7 x10) ∗ owns (c : Thread nD τ) arg12 fullShare (codesO i x0 x1 x2 x3 x4 x5 x6 x7 x8) ∗ owns (c : Thread nD τ) arg13 fullShare (scalesO i x0 x1 x2 x3 x4 x5 x6 x7 x8) ∗ owns (c : Thread nD τ) arg14 fullShare (scrW x2 x3) ∗ (∃ d, owns (c : Thread nD τ) arg15 fullShare d) ∗ (∃ d, owns (c : Thread nD τ) arg16 fullShare d) ∗ owns (c : Thread nD τ) arg17 fullShare (scrG x4)) -∗ K ⟨⟩))
          ⊢ wp frame (wpE (defs₀ (F := Ideal)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have T := TileIn.mk (i := i) (x0 := x0) (x1 := x1) (x2 := x2) (x3 := x3) (x4 := x4) (x5 := x5) (x6 := x6) (x7 := x7) (x8 := x8)
    (fun r q d => (harg14.readAt_unread (scrW x2 x3) (Rect.toLoadRect rowsW) (ix3 r q d)).trans (scrW_rows x2 x3 r q d)) (fun r q d => congrFun (readW arg14 harg14 (scrW x2 x3) ![0, 0, 0] z3 inb_S224x2x3584_S224x2x3584_0_0_0) (ix3 r q d)) (fun r q d => storedX arg15.view arg1 harg1 arg2 harg2 x0 x1 r q d) (readW arg8 harg8 x7 ![0, 0] z2 inb_S512x384_S512x384_0_0) (fun k l => congrFun (readW arg17 harg17 (scrG x4) ![0, 0] z2 inb_S384x128_S384x128_0_0) (ix2 k l)) (readW arg6 harg6 x5 ![0, 0] z2 inb_S1x32_S1x32_0_0) (fun c => readP i arg7 harg7 x6 c) (readW arg9 harg9 x8 ![0, 0, 0] z3 inb_S1x64x512_S1x64x512_0_0_0)
  have v9 := Eq.trans (canonWhole (s := S512x3584) (e := .bf16) ![0, 0] z2 inb_S512x3584_S512x3584_0_0 _) (dx_tile T arg16)
  have v10 := Eq.trans (canonWhole (s := S8x384) (e := .f32) ![0, 0] z2 inb_S8x384_S8x384_0_0 _) (dg_tile T x10 _ (readW arg11 harg11 x10 ![0, 0] z2 inb_S8x384_S8x384_0_0))
  have v11 := codes_tile T arg16
  have v12 := Eq.trans (canonWhole (s := S1x14x512) (e := .i8) ![0, 0, 0] z3 inb_S1x14x512_S1x14x512_0_0_0 _) (scales_tile T arg16)
  iintro ⟨H0, H1, H2, H3, H4, H5, H6, H7, H8, H9, H10, H11, H12, H13, H14, H15, H16, Hk⟩
  iapply ((valueRunB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 (scrW x2 x3) (scrG x4)).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, ⟨%f9, H9⟩, ⟨%f10, H10⟩, ⟨%f11, H11⟩, ⟨%f12, H12⟩, H13, H14, H15, H16⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (written c arg10 _ (valueRunB_L9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 (scrW x2 x3) (scrG x4)) (coverWhole (s := S512x3584) (e := .bf16) ![0, 0] z2 inb_S512x3584_S512x3584_0_0 _) (v9)); iexact H9
  isplitl [H10]; · iapply (written c arg11 _ (valueRunB_L10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 (scrW x2 x3) (scrG x4)) (coverWhole (s := S8x384) (e := .f32) ![0, 0] z2 inb_S8x384_S8x384_0_0 _) (v10)); iexact H10
  isplitl [H11]; · iapply (written c arg12 _ (valueRunB_L11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 (scrW x2 x3) (scrG x4)) (coverC _) (v11)); iexact H11
  isplitl [H12]; · iapply (written c arg13 _ (valueRunB_L12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x10 (scrW x2 x3) (scrG x4)) (coverWhole (s := S1x14x512) (e := .i8) ![0, 0, 0] z3 inb_S1x14x512_S1x14x512_0_0_0 _) (v12)); iexact H12
  isplitl [H13]; · iexact H13
  isplitl [H14]; · iapply (writtenAny c arg15 _); iexact H14
  isplitl [H15]; · iexact H15
  iexact H16

end Cert.KernelIdeal.Gen

end
-- ==== Proof.TileLaunch.lean ====
/- The launch with values: what every tile leaves, carried through the grid. -/
module

public import proofs.«01_k».proof.Proof.TileRun
public import proofs.«01_k».proof.Proof.KernelIdealStage
public import Idealize.ShloMosaic.Lib.Claim

@[expose] public section

set_option maxRecDepth 65536

noncomputable section

namespace Cert.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Spec Cert.KernelIdeal Cert.KernelIdeal.Gen
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The first tile. -/
def t0 : Fin cfg0.N := ⟨0, lt_of_lt_of_eq (by omega : 0 < 60) (N_0 : cfg0.N = 60).symm⟩

/-- The widened weight the first tile leaves for the later ones. -/
def Wscr (c : Dev nD) : Vec Ideal S224x2x3584 .bf16 := scrW (iblk m c 2 t0) (iblk m c 3 t0)

/-- The gain column the first tile leaves for the later ones. -/
def Gscr (c : Dev nD) : Vec Ideal S384x128 .f32 := scrG (iblk m c 4 t0)

/-- The invariant: before the first tile the scratch holds anything, afterwards the widened weight and the gain column. -/
def PhiV (c : Dev nD) : (n : ℕ) → n ≤ cfg0.N → sProp 𝕄
  | 0, _ => Pipeline.ΦA spec0 c
  | _ + 1, _ => iprop(iprop(owns (c : Thread nD τ) scM0_0 fullShare (Wscr m c) ∗ (∃ d, owns (c : Thread nD τ) scM0_1 fullShare d) ∗ (∃ d, owns (c : Thread nD τ) scM0_2 fullShare d) ∗ owns (c : Thread nD τ) scM0_3 fullShare (Gscr m c)) ∗ (∃ r, prngReg c r))

theorem PhiV_zero (c : Dev nD) (n : ℕ) (h : n ≤ cfg0.N) (hz : n = 0) : PhiV m c n h = Pipeline.ΦA spec0 c := by
  subst hz; rfl

theorem PhiV_pos (c : Dev nD) (n : ℕ) (h : n ≤ cfg0.N) (hz : n ≠ 0) :
    PhiV m c n h = iprop(iprop(owns (c : Thread nD τ) scM0_0 fullShare (Wscr m c) ∗ (∃ d, owns (c : Thread nD τ) scM0_1 fullShare d) ∗ (∃ d, owns (c : Thread nD τ) scM0_2 fullShare d) ∗ owns (c : Thread nD τ) scM0_3 fullShare (Gscr m c)) ∗ (∃ r, prngReg c r)) := by
  cases n with
  | zero => exact absurd rfl hz
  | succ n => rfl

/-- The launch's data without its outputs: each input's buffer holds its block. -/
def tileDat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := PhiV m c t.val (Nat.le_of_lt_succ t.isLt)
  q _ := fullShare
  owed _ := 0

theorem tileDat_A (c : Dev nD) (w : Fin cfg0.W) : (tileDat m c).A w = V m c (Pipeline.arrRef spec0 w) := by
  dsimp only [tileDat]

theorem PhiV_castSucc (c : Dev nD) (t : Fin cfg0.N) :
    (tileDat m c).Φ t.castSucc = PhiV m c t.val (Nat.le_of_lt t.isLt) := by
  dsimp only [tileDat]; exact Pipeline.Dat.Φ_castSucc (PhiV m c) t

theorem tAfter0 (c : Dev nD) (t : Fin cfg0.N) : (tileDat m c).after 0 t = iblk m c 0 t := by dsimp only [tileDat]
theorem tAfter1 (c : Dev nD) (t : Fin cfg0.N) : (tileDat m c).after 1 t = iblk m c 1 t := by dsimp only [tileDat]
theorem tAfter2 (c : Dev nD) (t : Fin cfg0.N) : (tileDat m c).after 2 t = iblk m c 2 t := by dsimp only [tileDat]
theorem tAfter3 (c : Dev nD) (t : Fin cfg0.N) : (tileDat m c).after 3 t = iblk m c 3 t := by dsimp only [tileDat]
theorem tAfter4 (c : Dev nD) (t : Fin cfg0.N) : (tileDat m c).after 4 t = iblk m c 4 t := by dsimp only [tileDat]
theorem tAfter5 (c : Dev nD) (t : Fin cfg0.N) : (tileDat m c).after 5 t = iblk m c 5 t := by dsimp only [tileDat]
theorem tAfter6 (c : Dev nD) (t : Fin cfg0.N) : (tileDat m c).after 6 t = iblk m c 6 t := by dsimp only [tileDat]
theorem tAfter7 (c : Dev nD) (t : Fin cfg0.N) : (tileDat m c).after 7 t = iblk m c 7 t := by dsimp only [tileDat]
theorem tAfter8 (c : Dev nD) (t : Fin cfg0.N) : (tileDat m c).after 8 t = iblk m c 8 t := by dsimp only [tileDat]

/-- The tile of the gradient of the input at point `t`. -/
def dxAt (c : Dev nD) (t : Fin cfg0.N) : Vec Ideal S512x3584 .bf16 := dxO (grid0.coords t) (iblk m c 0 t) (iblk m c 1 t) (iblk m c 2 t) (iblk m c 3 t) (iblk m c 4 t) (iblk m c 5 t) (iblk m c 6 t) (iblk m c 7 t) (iblk m c 8 t)

/-- The block of the gain's partial gradients after point `t`, from what it held. -/
def dgAt (c : Dev nD) (t : Fin cfg0.N) (y : Vec Ideal S8x384 .f32) : Vec Ideal S8x384 .f32 := dgO (grid0.coords t) (iblk m c 0 t) (iblk m c 1 t) (iblk m c 2 t) (iblk m c 3 t) (iblk m c 7 t) y

/-- The tile of the codes at point `t`. -/
def codesAt (c : Dev nD) (t : Fin cfg0.N) : Vec Ideal S1x448x512 .fp8e5m2 := codesO (grid0.coords t) (iblk m c 0 t) (iblk m c 1 t) (iblk m c 2 t) (iblk m c 3 t) (iblk m c 4 t) (iblk m c 5 t) (iblk m c 6 t) (iblk m c 7 t) (iblk m c 8 t)

/-- The tile of the scales at point `t`. -/
def scalesAt (c : Dev nD) (t : Fin cfg0.N) : Vec Ideal S1x14x512 .i8 := scalesO (grid0.coords t) (iblk m c 0 t) (iblk m c 1 t) (iblk m c 2 t) (iblk m c 3 t) (iblk m c 4 t) (iblk m c 5 t) (iblk m c 6 t) (iblk m c 7 t) (iblk m c 8 t)

/-- What the body leaves in the outputs' buffers: the gain's block is updated from what it held, the others are named outright. -/
def leaves (c : Dev nD) : (w : Fin cfg0.W) → Option (Fin cfg0.N → (Y X : (cfg0.win w).block.Idx → Elt Ideal (cfg0.win w).elt) → Prop) := fun w =>
  match w with
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => none
  | ⟨9, _⟩ => some fun t _ X => X = dxAt m c t
  | ⟨10, _⟩ => some fun t Y X => X = dgAt m c t Y
  | ⟨11, _⟩ => some fun t _ X => X = codesAt m c t
  | ⟨12, _⟩ => some fun t _ X => X = scalesAt m c t

/-- The launch's data. -/
def rdat (c : Dev nD) : RDat τ (Elt Ideal) Unit ℕ (UR sig nD τ) ℕ cfg0 c := (tileDat m c).toR.override (leaves m c)

/-- The row of the body's table at a point. -/
theorem row (t : Fin cfg0.N) : defs₀ (F := Ideal) .tc cfg0.body (cfg0.bodyArgs t (cfg0.slots t)) = bodyAt0 t := by
  unfold defs₀; rw [Defs.onTc_tc]

theorem found0 (c : Dev nD) (t : Fin cfg0.N) (X) (h : (rdat m c).Finds 0 t X) : X = iblk m c 0 t := by
  obtain ⟨d, hd⟩ := (tileDat m c).toR_finds 0 t X ((RDat.override_finds (rd := (tileDat m c).toR) (ovr := leaves m c) rfl t X).mp h)
  exact hd.trans (before0_0_of m (tileDat m c) (tileDat_A m c 0) (tAfter0 m c) t d)

theorem left0 (c : Dev nD) (t : Fin cfg0.N) (Y X) (h : X = iblk m c 0 t) : (rdat m c).after 0 t Y X := by
  show (tileDat m c).Leaves 0 t X
  exact ((Dat.Leaves.live_iff (tileDat m c) (w := 0) (t := t) (X := X) (.inl rfl)).mpr (h.trans (tAfter0 m c t).symm))

theorem found1 (c : Dev nD) (t : Fin cfg0.N) (X) (h : (rdat m c).Finds 1 t X) : X = iblk m c 1 t := by
  obtain ⟨d, hd⟩ := (tileDat m c).toR_finds 1 t X ((RDat.override_finds (rd := (tileDat m c).toR) (ovr := leaves m c) rfl t X).mp h)
  exact hd.trans (before0_1_of m (tileDat m c) (tileDat_A m c 1) (tAfter1 m c) t d)

theorem left1 (c : Dev nD) (t : Fin cfg0.N) (Y X) (h : X = iblk m c 1 t) : (rdat m c).after 1 t Y X := by
  show (tileDat m c).Leaves 1 t X
  exact ((Dat.Leaves.live_iff (tileDat m c) (w := 1) (t := t) (X := X) (.inl rfl)).mpr (h.trans (tAfter1 m c t).symm))

theorem found2 (c : Dev nD) (t : Fin cfg0.N) (X) (h : (rdat m c).Finds 2 t X) : X = iblk m c 2 t := by
  obtain ⟨d, hd⟩ := (tileDat m c).toR_finds 2 t X ((RDat.override_finds (rd := (tileDat m c).toR) (ovr := leaves m c) rfl t X).mp h)
  exact hd.trans (before0_2_of m (tileDat m c) (tileDat_A m c 2) (tAfter2 m c) t d)

theorem left2 (c : Dev nD) (t : Fin cfg0.N) (Y X) (h : X = iblk m c 2 t) : (rdat m c).after 2 t Y X := by
  show (tileDat m c).Leaves 2 t X
  exact ((Dat.Leaves.live_iff (tileDat m c) (w := 2) (t := t) (X := X) (.inl rfl)).mpr (h.trans (tAfter2 m c t).symm))

theorem found3 (c : Dev nD) (t : Fin cfg0.N) (X) (h : (rdat m c).Finds 3 t X) : X = iblk m c 3 t := by
  obtain ⟨d, hd⟩ := (tileDat m c).toR_finds 3 t X ((RDat.override_finds (rd := (tileDat m c).toR) (ovr := leaves m c) rfl t X).mp h)
  exact hd.trans (before0_3_of m (tileDat m c) (tileDat_A m c 3) (tAfter3 m c) t d)

theorem left3 (c : Dev nD) (t : Fin cfg0.N) (Y X) (h : X = iblk m c 3 t) : (rdat m c).after 3 t Y X := by
  show (tileDat m c).Leaves 3 t X
  exact ((Dat.Leaves.live_iff (tileDat m c) (w := 3) (t := t) (X := X) (.inl rfl)).mpr (h.trans (tAfter3 m c t).symm))

theorem found4 (c : Dev nD) (t : Fin cfg0.N) (X) (h : (rdat m c).Finds 4 t X) : X = iblk m c 4 t := by
  obtain ⟨d, hd⟩ := (tileDat m c).toR_finds 4 t X ((RDat.override_finds (rd := (tileDat m c).toR) (ovr := leaves m c) rfl t X).mp h)
  exact hd.trans (before0_4_of m (tileDat m c) (tileDat_A m c 4) (tAfter4 m c) t d)

theorem left4 (c : Dev nD) (t : Fin cfg0.N) (Y X) (h : X = iblk m c 4 t) : (rdat m c).after 4 t Y X := by
  show (tileDat m c).Leaves 4 t X
  exact ((Dat.Leaves.live_iff (tileDat m c) (w := 4) (t := t) (X := X) (.inl rfl)).mpr (h.trans (tAfter4 m c t).symm))

theorem found5 (c : Dev nD) (t : Fin cfg0.N) (X) (h : (rdat m c).Finds 5 t X) : X = iblk m c 5 t := by
  obtain ⟨d, hd⟩ := (tileDat m c).toR_finds 5 t X ((RDat.override_finds (rd := (tileDat m c).toR) (ovr := leaves m c) rfl t X).mp h)
  exact hd.trans (before0_5_of m (tileDat m c) (tileDat_A m c 5) (tAfter5 m c) t d)

theorem left5 (c : Dev nD) (t : Fin cfg0.N) (Y X) (h : X = iblk m c 5 t) : (rdat m c).after 5 t Y X := by
  show (tileDat m c).Leaves 5 t X
  exact ((Dat.Leaves.live_iff (tileDat m c) (w := 5) (t := t) (X := X) (.inl rfl)).mpr (h.trans (tAfter5 m c t).symm))

theorem found6 (c : Dev nD) (t : Fin cfg0.N) (X) (h : (rdat m c).Finds 6 t X) : X = iblk m c 6 t := by
  obtain ⟨d, hd⟩ := (tileDat m c).toR_finds 6 t X ((RDat.override_finds (rd := (tileDat m c).toR) (ovr := leaves m c) rfl t X).mp h)
  exact hd.trans (before0_6_of m (tileDat m c) (tileDat_A m c 6) (tAfter6 m c) t d)

theorem left6 (c : Dev nD) (t : Fin cfg0.N) (Y X) (h : X = iblk m c 6 t) : (rdat m c).after 6 t Y X := by
  show (tileDat m c).Leaves 6 t X
  exact ((Dat.Leaves.live_iff (tileDat m c) (w := 6) (t := t) (X := X) (.inl rfl)).mpr (h.trans (tAfter6 m c t).symm))

theorem found7 (c : Dev nD) (t : Fin cfg0.N) (X) (h : (rdat m c).Finds 7 t X) : X = iblk m c 7 t := by
  obtain ⟨d, hd⟩ := (tileDat m c).toR_finds 7 t X ((RDat.override_finds (rd := (tileDat m c).toR) (ovr := leaves m c) rfl t X).mp h)
  exact hd.trans (before0_7_of m (tileDat m c) (tileDat_A m c 7) (tAfter7 m c) t d)

theorem left7 (c : Dev nD) (t : Fin cfg0.N) (Y X) (h : X = iblk m c 7 t) : (rdat m c).after 7 t Y X := by
  show (tileDat m c).Leaves 7 t X
  exact ((Dat.Leaves.live_iff (tileDat m c) (w := 7) (t := t) (X := X) (.inl rfl)).mpr (h.trans (tAfter7 m c t).symm))

theorem found8 (c : Dev nD) (t : Fin cfg0.N) (X) (h : (rdat m c).Finds 8 t X) : X = iblk m c 8 t := by
  obtain ⟨d, hd⟩ := (tileDat m c).toR_finds 8 t X ((RDat.override_finds (rd := (tileDat m c).toR) (ovr := leaves m c) rfl t X).mp h)
  exact hd.trans (before0_8_of m (tileDat m c) (tileDat_A m c 8) (tAfter8 m c) t d)

theorem left8 (c : Dev nD) (t : Fin cfg0.N) (Y X) (h : X = iblk m c 8 t) : (rdat m c).after 8 t Y X := by
  show (tileDat m c).Leaves 8 t X
  exact ((Dat.Leaves.live_iff (tileDat m c) (w := 8) (t := t) (X := X) (.inl rfl)).mpr (h.trans (tAfter8 m c t).symm))

/-- The weight's blocks are the same at every tile. -/
theorem Wscr_eq (c : Dev nD) (t : Fin cfg0.N) : Wscr m c = scrW (iblk m c 2 t) (iblk m c 3 t) := rfl

/-- The gain's block is the same at every tile. -/
theorem Gscr_eq (c : Dev nD) (t : Fin cfg0.N) : Gscr m c = scrG (iblk m c 4 t) := rfl

set_option maxHeartbeats 4000000 in
/-- The body at a point: from the inputs' blocks it leaves the named outputs, and hands on the scratch. -/
theorem body_obligation (c : Dev nD) : (rdat m c).BodyObligation (defs₀ (F := Ideal)) Variants.none () Set.univ := fun t Y hY => by
  have e0 : Y 0 = iblk m c 0 t := found0 m c t (Y 0) (hY 0)
  have e1 : Y 1 = iblk m c 1 t := found1 m c t (Y 1) (hY 1)
  have e2 : Y 2 = iblk m c 2 t := found2 m c t (Y 2) (hY 2)
  have e3 : Y 3 = iblk m c 3 t := found3 m c t (Y 3) (hY 3)
  have e4 : Y 4 = iblk m c 4 t := found4 m c t (Y 4) (hY 4)
  have e5 : Y 5 = iblk m c 5 t := found5 m c t (Y 5) (hY 5)
  have e6 : Y 6 = iblk m c 6 t := found6 m c t (Y 6) (hY 6)
  have e7 : Y 7 = iblk m c 7 t := found7 m c t (Y 7) (hY 7)
  have e8 : Y 8 = iblk m c 8 t := found8 m c t (Y 8) (hY 8)
  have hS : Wscr m c = scrW (Y 2) (Y 3) := by rw [e2, e3]; exact Wscr_eq m c t
  have hG : Gscr m c = scrG (Y 4) := by rw [e4]; exact Gscr_eq m c t
  have h9 : (rdat m c).after 9 t (Y 9) (dxO (grid0.coords t) (Y 0) (Y 1) (Y 2) (Y 3) (Y 4) (Y 5) (Y 6) (Y 7) (Y 8)) := by
    show dxO (grid0.coords t) (Y 0) (Y 1) (Y 2) (Y 3) (Y 4) (Y 5) (Y 6) (Y 7) (Y 8) = dxAt m c t
    rw [e0, e1, e2, e3, e4, e5, e6, e7, e8]; rfl
  have h10 : (rdat m c).after 10 t (Y 10) (dgO (grid0.coords t) (Y 0) (Y 1) (Y 2) (Y 3) (Y 7) (Y 10)) := by
    show dgO (grid0.coords t) (Y 0) (Y 1) (Y 2) (Y 3) (Y 7) (Y 10) = dgAt m c t (Y 10)
    rw [e0, e1, e2, e3, e7]; rfl
  have h11 : (rdat m c).after 11 t (Y 11) (codesO (grid0.coords t) (Y 0) (Y 1) (Y 2) (Y 3) (Y 4) (Y 5) (Y 6) (Y 7) (Y 8)) := by
    show codesO (grid0.coords t) (Y 0) (Y 1) (Y 2) (Y 3) (Y 4) (Y 5) (Y 6) (Y 7) (Y 8) = codesAt m c t
    rw [e0, e1, e2, e3, e4, e5, e6, e7, e8]; rfl
  have h12 : (rdat m c).after 12 t (Y 12) (scalesO (grid0.coords t) (Y 0) (Y 1) (Y 2) (Y 3) (Y 4) (Y 5) (Y 6) (Y 7) (Y 8)) := by
    show scalesO (grid0.coords t) (Y 0) (Y 1) (Y 2) (Y 3) (Y 4) (Y 5) (Y 6) (Y 7) (Y 8) = scalesAt m c t
    rw [e0, e1, e2, e3, e4, e5, e6, e7, e8]; rfl
  rw [bigSep_W0, bigSep_W0, row]
  unfold bodyAt0
  rw [show (rdat m c).owesAt () t.succ = (rdat m c).owesAt () t.castSucc from rfl]
  rw [show (rdat m c).Φ t.castSucc = PhiV m c t.val (Nat.le_of_lt t.isLt) from PhiV_castSucc m c t,
    show (rdat m c).Φ t.succ = PhiV m c (t.val + 1) t.isLt from rfl, PhiV_pos m c (t.val + 1) t.isLt (Nat.succ_ne_zero _)]
  by_cases hz : t.val = 0
  · rw [PhiV_zero m c _ _ hz, PhiA0_eq, hS, hG]
    iintro ⟨⟨⟨HS0, HS1, HS2, HS3⟩, Hg⟩, Ho, H0, H1, H2, H3, H4, H5, H6, H7, H8, H9, H10, H11, H12⟩
    iapply (tileRunA c (grid0.coords t) _ _ _ _ _ _ _ _ _ _ _ _ _ _ _ _ _ _ _ _ _ _ _ _ _ _ _ _ _ _ _ _ _ _ ((hcond0_0 t).mpr (by rw [hz])) (Y 0) (Y 1) (Y 2) (Y 3) (Y 4) (Y 5) (Y 6) (Y 7) (Y 8) (Y 10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _; isplitr; swap; · iexact H0
      ipureintro; exact left0 m c t _ _ e0
    isplitl [H1]
    · iexists _; isplitr; swap; · iexact H1
      ipureintro; exact left1 m c t _ _ e1
    isplitl [H2]
    · iexists _; isplitr; swap; · iexact H2
      ipureintro; exact left2 m c t _ _ e2
    isplitl [H3]
    · iexists _; isplitr; swap; · iexact H3
      ipureintro; exact left3 m c t _ _ e3
    isplitl [H4]
    · iexists _; isplitr; swap; · iexact H4
      ipureintro; exact left4 m c t _ _ e4
    isplitl [H5]
    · iexists _; isplitr; swap; · iexact H5
      ipureintro; exact left5 m c t _ _ e5
    isplitl [H6]
    · iexists _; isplitr; swap; · iexact H6
      ipureintro; exact left6 m c t _ _ e6
    isplitl [H7]
    · iexists _; isplitr; swap; · iexact H7
      ipureintro; exact left7 m c t _ _ e7
    isplitl [H8]
    · iexists _; isplitr; swap; · iexact H8
      ipureintro; exact left8 m c t _ _ e8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    iexists _; isplitr; swap; · iexact H12
    ipureintro; exact h12
  · rw [PhiV_pos m c _ _ hz, hS, hG]
    iintro ⟨⟨⟨HS0, HS1, HS2, HS3⟩, Hg⟩, Ho, H0, H1, H2, H3, H4, H5, H6, H7, H8, H9, H10, H11, H12⟩
    iapply (tileRunB c (grid0.coords t) _ _ _ _ _ _ _ _ _ _ _ _ _ _ _ _ _ _ _ _ _ _ _ _ _ _ _ _ _ _ _ _ _ _ (fun h => hz (by have h1 := (hcond0_0 t).mp h; have hN : t.val < 60 := lt_of_lt_of_eq t.isLt (show cfg0.N = 60 from N_0); omega)) (Y 0) (Y 1) (Y 2) (Y 3) (Y 4) (Y 5) (Y 6) (Y 7) (Y 8) (Y 10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _; isplitr; swap; · iexact H0
      ipureintro; exact left0 m c t _ _ e0
    isplitl [H1]
    · iexists _; isplitr; swap; · iexact H1
      ipureintro; exact left1 m c t _ _ e1
    isplitl [H2]
    · iexists _; isplitr; swap; · iexact H2
      ipureintro; exact left2 m c t _ _ e2
    isplitl [H3]
    · iexists _; isplitr; swap; · iexact H3
      ipureintro; exact left3 m c t _ _ e3
    isplitl [H4]
    · iexists _; isplitr; swap; · iexact H4
      ipureintro; exact left4 m c t _ _ e4
    isplitl [H5]
    · iexists _; isplitr; swap; · iexact H5
      ipureintro; exact left5 m c t _ _ e5
    isplitl [H6]
    · iexists _; isplitr; swap; · iexact H6
      ipureintro; exact left6 m c t _ _ e6
    isplitl [H7]
    · iexists _; isplitr; swap; · iexact H7
      ipureintro; exact left7 m c t _ _ e7
    isplitl [H8]
    · iexists _; isplitr; swap; · iexact H8
      ipureintro; exact left8 m c t _ _ e8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    iexists _; isplitr; swap; · iexact H12
    ipureintro; exact h12

/-- What the launch hands the region is the invariant before the first tile. -/
theorem hin (c : Dev nD) : Pipeline.ΦA spec0 c ⊢ (rdat m c).Φ 0 := by
  rw [show (rdat m c).Φ 0 = PhiV m c 0 (Nat.zero_le _) from rfl, PhiV_zero m c 0 _ rfl]

/-- After the last tile the scratch's contents are forgotten. -/
theorem hout (c : Dev nD) : (rdat m c).Φ (Fin.last cfg0.N) ⊢ Pipeline.ΦA spec0 c := by
  have hN : cfg0.N = 60 := N_0
  rw [show (rdat m c).Φ (Fin.last cfg0.N) = PhiV m c (Fin.last cfg0.N).val (Nat.le_of_lt_succ (Fin.last cfg0.N).isLt) from rfl,
    PhiV_pos m c _ _ (by rw [Fin.val_last]; omega), PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

set_option backward.isDefEq.respectTransparency.types false in
/-- The launch: every execution terminates, each array holding what the data says it may, every counter at zero. -/
theorem run : θ_run defs (onTc (τ := τ) (main (F := Ideal))) (s₀ m ρ) (fun r => (RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => body_obligation m c) (hshare := fun c => (tileDat m c).share_full fun _ => rfl)
    (howed := fun _ _ => rfl) (V := V m) (hmain := hmain m Variants.none) (hA := fun c w => tileDat_A m c w) (hin := hin m) (hout := hout m)

end Cert.Value

end
-- ==== Proof.Whole.lean ====
/- The four results as functions of the launch's arrays. -/
module

public import proofs.«01_k».proof.Proof.TileValue

@[expose] public section

set_option maxRecDepth 65536

noncomputable section

namespace Cert.Spec

open Idealize.ShloMosaic Cert.KernelIdeal.Gen

/-- The rotation's frequency of pair `h`: one over the base to the power `2 h / 64`. -/
def freqS (h : Fin 32) : EReal :=
  Ideal.div 1 (Ideal.pow (Ideal.ofBits FTy.f32 1176256512#32)
    (Ideal.div (Ideal.ofBits FTy.f32 1073741824#32 * FloatOps.sitofp (F := Ideal) FTy.f32 (BitVec.ofNat 32 h.val)) (Ideal.ofBits FTy.f32 1115684864#32)))

/-- A launch's arrays, entry by entry: the input's codes and scales, the weight's codes and scales, the gain, the positions and the two incoming gradients. -/
structure Args where
  x : Fin 2 → Fin 15360 → Fin 3584 → EReal
  xs : Fin 2 → Fin 15360 → Fin 112 → BitVec 8
  w : Fin 448 → Fin 3584 → EReal
  ws : Fin 448 → Fin 112 → BitVec 8
  gain : Fin 384 → EReal
  pos : Fin 2 → Fin 15360 → BitVec 32
  dc : Fin 2 → Fin 15360 → Fin 384 → EReal
  dk : Fin 2 → Fin 15360 → Fin 64 → EReal

variable (A : Args)

/-- The input's values: its codes times its scales. -/
def Args.X (b : Fin 2) (s : Fin 15360) (d : Fin 3584) : EReal := A.x b s d * dec (A.xs b s ⟨d.val / 32, by omega⟩)

/-- The weight: its codes times its scales. -/
def Args.W (k : Fin 448) (d : Fin 3584) : EReal := A.w k d * dec (A.ws k ⟨d.val / 32, by omega⟩)

/-- A token's row of the gradient before it is quantised. -/
def Args.row (b : Fin 2) (s : Fin 15360) : Fin 448 → EReal :=
  rowS A.W (A.X b s) (A.dc b s) A.gain (fun h => posS (A.pos b s) * freqS h) (A.dk b s)

/-- The sequence a row of the flattened arrays belongs to. -/
def batch (n : Fin 30720) : Fin 2 := ⟨n.val / 15360, by omega⟩

/-- The place in its sequence of a row of the flattened arrays. -/
def place (n : Fin 30720) : Fin 15360 := ⟨n.val % 15360, Nat.mod_lt _ (by omega)⟩

/-- The gradient of the input. -/
def Args.dx (n : Fin 30720) (d : Fin 3584) : EReal := dxS A.W (A.row (batch n) (place n)) d

/-- A token's term of the gradient of the gain. -/
def Args.term (n : Fin 30720) (k : Fin 384) : EReal := pS (cS A.W (A.X (batch n) (place n))) (A.dc (batch n) (place n)) k

/-- The gradient of the gain, summed over runs of 128 tokens. -/
def Args.dg (r : Fin 240) (k : Fin 384) : EReal := ∑ x : Fin 128, A.term ⟨128 * r.val + x.val, by omega⟩ k

/-- The codes of the quantised gradient. -/
def Args.codes (b : Fin 2) (k : Fin 448) (s : Fin 15360) : EReal := codeS (A.row b s) k

/-- The scales of the quantised gradient. -/
def Args.scales (b : Fin 2) (k : Fin 14) (s : Fin 15360) : BitVec 8 := scaleS (A.row b s) k

end Cert.Spec

end
-- ==== Proof.Arrays.lean ====
/- The launch's blocks and results against the arrays they are cut from. -/
module

public import proofs.«01_k».proof.Proof.TileLaunch
public import proofs.«01_k».proof.Proof.Whole
public import Idealize.ShloMosaic.Lib.Pipeline.ValueKit
public import Idealize.ShloMosaic.Lib.Pipeline.ArrRel

@[expose] public section

set_option maxRecDepth 65536

noncomputable section

namespace Cert.Value

open Idealize.ShloMosaic Idealize.ShloMosaic.TcCoe Idealize.ShloMosaic.Tactic
open Idealize.SL Idealize.SL.RA Idealize.SL.BI Idealize.SL.Sem
open Idealize.ShloMosaic.Rounds Cert.Spec Cert.KernelIdeal Cert.KernelIdeal.Gen
open Idealize.ShloMosaic.Pipeline (Dat RDat Cfg Window cellOf)

variable (m : (ℓ : Loc nD τ sig) → Buf (Elt Ideal) ℓ) (ρ : Dev nD → PrngReg)

/-- The blocks each point reads and writes. -/
theorem idx : ∀ t : Fin grid0.N, win0_0.index t = ![t.val, 0] ∧ win0_1.index t = ![t.val / 30, 0, t.val % 30] ∧ win0_2.index t = ![0, 0] ∧ win0_3.index t = ![0, 0] ∧
    win0_4.index t = ![0, 0] ∧ win0_5.index t = ![0, 0] ∧ win0_6.index t = ![0, t.val % 30] ∧ win0_7.index t = ![t.val, 0] ∧ win0_8.index t = ![t.val / 30, 0, t.val % 30] ∧
    win0_9.index t = ![t.val, 0] ∧ win0_10.index t = ![t.val / 2, 0] ∧ win0_11.index t = ![t.val / 30, 0, t.val % 30] ∧ win0_12.index t = ![t.val / 30, 0, t.val % 30] := by
  decide +kernel

theorem lt60 (t : Fin cfg0.N) : t.val < 60 := lt_of_lt_of_eq t.isLt (show cfg0.N = 60 from N_0)

/-- The row of the flattened arrays that token `p` of tile `t` is. -/
def tokN (t : Fin cfg0.N) (p : Fin 512) : Fin 30720 := ⟨512 * t.val + p.val, by have := lt60 t; omega⟩

theorem batch_tok (t : Fin cfg0.N) (p : Fin 512) : (batch (tokN t p)).val = t.val / 30 := by
  have := lt60 t; show (512 * t.val + p.val) / 15360 = _; omega

theorem place_tok (t : Fin cfg0.N) (p : Fin 512) : (place (tokN t p)).val = 512 * (t.val % 30) + p.val := by
  have := lt60 t; show (512 * t.val + p.val) % 15360 = _; omega

/-- The launch's arrays on device `c`. -/
def args (c : Dev nD) : Args where
  x b s d := m ((c : Thread nD τ).loc main_arg0) (ix3 b s d)
  xs b s j := m ((c : Thread nD τ).loc main_arg1) (ix3 b s j)
  w k d := m ((c : Thread nD τ).loc main_arg2) (ix2 k d)
  ws k j := m ((c : Thread nD τ).loc main_arg3) (ix2 k j)
  gain k := m ((c : Thread nD τ).loc main_arg4) (ix1 k)
  pos b s := m ((c : Thread nD τ).loc main_arg5) (ix2 b s)
  dc b s k := m ((c : Thread nD τ).loc main_arg6) (ix3 b s k)
  dk b s j := m ((c : Thread nD τ).loc main_arg7) (ix3 b s j)

theorem entry11 (c : Dev nD) (n : Fin 30720) (d : Fin 3584) : V m c main_v11 (ix2 n d) = (args m c).x (batch n) (place n) d := by
  show _ = m ((c : Thread nD τ).loc main_arg0) (ix3 (⟨n.val / 15360, by omega⟩ : Fin 2) (⟨n.val % 15360, by omega⟩ : Fin 15360) d)
  entry_read
  pointwise

theorem entry12 (c : Dev nD) (b : Fin 2) (s : Fin 112) (n : Fin 15360) : V m c main_v12 (ix3 b s n) = (args m c).xs b n s := by
  show _ = m ((c : Thread nD τ).loc main_arg1) (ix3 b n s)
  entry_read
  pointwise

theorem entry13 (c : Dev nD) (k : Fin 384) : V m c main_v13 (ix2 0 k) = (args m c).gain k := by
  show _ = m ((c : Thread nD τ).loc main_arg4) (ix1 k)
  entry_read
  pointwise

theorem entry14 (c : Dev nD) (k : Fin 32) : V m c main_v14 (ix2 0 k) = freqS k := by
  unfold freqS
  entry_read
  pointwise

theorem entry15 (c : Dev nD) (n : Fin 30720) (d : Fin 384) : V m c main_v15 (ix2 n d) = (args m c).dc (batch n) (place n) d := by
  show _ = m ((c : Thread nD τ).loc main_arg6) (ix3 (⟨n.val / 15360, by omega⟩ : Fin 2) (⟨n.val % 15360, by omega⟩ : Fin 15360) d)
  entry_read
  pointwise

theorem entry16 (c : Dev nD) (b : Fin 2) (s : Fin 64) (n : Fin 15360) : V m c main_v16 (ix3 b s n) = (args m c).dk b n s := by
  show _ = m ((c : Thread nD τ).loc main_arg7) (ix3 b n s)
  entry_read
  pointwise

theorem blk0 (c : Dev nD) (t : Fin cfg0.N) (p : Fin 512) (d : Fin 3584) : iblk m c 0 t (ix2 p d) = (args m c).x (batch (tokN t p)) (place (tokN t p)) d := by
  have hb := batch_tok t p; have hp := place_tok t p
  have h : iblk m c 0 t (ix2 p d) = V m c main_v11 (ix2 (tokN t p) d) := by blk_ext [iblk, idx t, tokN]
  exact h.trans (entry11 m c _ d)

theorem blk1 (c : Dev nD) (t : Fin cfg0.N) (s : Fin 112) (p : Fin 512) : iblk m c 1 t (ix3 0 s p) = (args m c).xs (batch (tokN t p)) (place (tokN t p)) s := by
  have hb := batch_tok t p; have hp := place_tok t p
  have h : iblk m c 1 t (ix3 0 s p) = V m c main_v12 (ix3 (batch (tokN t p)) s (place (tokN t p))) := by blk_ext [iblk, idx t, hb, hp]
  exact h.trans (entry12 m c _ s _)

theorem blk2 (c : Dev nD) (t : Fin cfg0.N) (k : Fin 448) (d : Fin 3584) : iblk m c 2 t (ix2 k d) = (args m c).w k d := by
  skip
  have h : iblk m c 2 t (ix2 k d) = V m c main_arg2 (ix2 k d) := by blk_ext [iblk, idx t]
  exact h.trans (congrFun (V_main_arg2 m c) _)

theorem blk3 (c : Dev nD) (t : Fin cfg0.N) (k : Fin 448) (d : Fin 112) : iblk m c 3 t (ix2 k d) = (args m c).ws k d := by
  skip
  have h : iblk m c 3 t (ix2 k d) = V m c main_arg3 (ix2 k d) := by blk_ext [iblk, idx t]
  exact h.trans (congrFun (V_main_arg3 m c) _)

theorem blk4 (c : Dev nD) (t : Fin cfg0.N) (k : Fin 384) : iblk m c 4 t (ix2 0 k) = (args m c).gain k := by
  skip
  have h : iblk m c 4 t (ix2 0 k) = V m c main_v13 (ix2 0 k) := by blk_ext [iblk, idx t]
  exact h.trans (entry13 m c k)

theorem blk5 (c : Dev nD) (t : Fin cfg0.N) (k : Fin 32) : iblk m c 5 t (ix2 0 k) = freqS k := by
  skip
  have h : iblk m c 5 t (ix2 0 k) = V m c main_v14 (ix2 0 k) := by blk_ext [iblk, idx t]
  exact h.trans (entry14 m c k)

theorem blk6 (c : Dev nD) (t : Fin cfg0.N) (b : Fin 2) (p : Fin 512) : iblk m c 6 t (ix2 b p) = (args m c).pos b (place (tokN t p)) := by
  have hb := batch_tok t p; have hp := place_tok t p
  have h : iblk m c 6 t (ix2 b p) = V m c main_arg5 (ix2 b (place (tokN t p))) := by blk_ext [iblk, idx t, hb, hp]
  exact h.trans (congrFun (V_main_arg5 m c) _)

theorem blk7 (c : Dev nD) (t : Fin cfg0.N) (p : Fin 512) (d : Fin 384) : iblk m c 7 t (ix2 p d) = (args m c).dc (batch (tokN t p)) (place (tokN t p)) d := by
  have hb := batch_tok t p; have hp := place_tok t p
  have h : iblk m c 7 t (ix2 p d) = V m c main_v15 (ix2 (tokN t p) d) := by blk_ext [iblk, idx t, tokN]
  exact h.trans (entry15 m c _ d)

theorem blk8 (c : Dev nD) (t : Fin cfg0.N) (s : Fin 64) (p : Fin 512) : iblk m c 8 t (ix3 0 s p) = (args m c).dk (batch (tokN t p)) (place (tokN t p)) s := by
  have hb := batch_tok t p; have hp := place_tok t p
  have h : iblk m c 8 t (ix3 0 s p) = V m c main_v16 (ix3 (batch (tokN t p)) s (place (tokN t p))) := by blk_ext [iblk, idx t, hb, hp]
  exact h.trans (entry16 m c _ s _)

/-- The grid is one axis: a point's coordinate is its number. -/
theorem coord : ∀ t : Fin grid0.N, (grid0.coords t 0).val = t.val := by decide +kernel

theorem rowP_tok (t : Fin cfg0.N) (p : Fin 512) : rowP (grid0.coords t) = batch (tokN t p) :=
  Fin.ext (by rw [batch_tok]; show (grid0.coords t 0).val / 30 = _; rw [coord t])

theorem Xm_tok (c : Dev nD) (t : Fin cfg0.N) (p : Fin 512) : Xm (iblk m c 0 t) (iblk m c 1 t) p = (args m c).X (batch (tokN t p)) (place (tokN t p)) := by
  funext d; exact congrArg₂ (fun a b => a * dec b) (blk0 m c t p d) (blk1 m c t _ p)

theorem Wm_args (c : Dev nD) (t : Fin cfg0.N) : Wm (iblk m c 2 t) (iblk m c 3 t) = (args m c).W := by
  funext k d; exact congrArg₂ (fun a b => a * dec b) (blk2 m c t k d) (blk3 m c t k _)

theorem dcR_tok (c : Dev nD) (t : Fin cfg0.N) (p : Fin 512) : dcR (iblk m c 7 t) p = (args m c).dc (batch (tokN t p)) (place (tokN t p)) := by
  funext k; exact blk7 m c t p k

/-- A token's gradient row in its tile is its row of the whole. -/
theorem gRow_tok (c : Dev nD) (t : Fin cfg0.N) (p : Fin 512) :
    gRow (grid0.coords t) (iblk m c 0 t) (iblk m c 1 t) (iblk m c 2 t) (iblk m c 3 t) (iblk m c 4 t) (iblk m c 5 t) (iblk m c 6 t) (iblk m c 7 t) (iblk m c 8 t) p
      = (args m c).row (batch (tokN t p)) (place (tokN t p)) := by
  have h4 : (fun k : Fin 384 => iblk m c 4 t (ix2 0 k)) = (args m c).gain := funext fun k => blk4 m c t k
  have h5 : (fun h : Fin 32 => posS (iblk m c 6 t (ix2 (rowP (grid0.coords t)) p)) * iblk m c 5 t (ix2 0 h)) = fun h => posS ((args m c).pos (batch (tokN t p)) (place (tokN t p))) * freqS h := by
    funext h; rw [rowP_tok t p]
    exact congrArg₂ (fun a b => posS a * b) (blk6 m c t _ p) (blk5 m c t h)
  have h8 : (fun j : Fin 64 => iblk m c 8 t (ix3 0 j p)) = (args m c).dk (batch (tokN t p)) (place (tokN t p)) := funext fun j => blk8 m c t j p
  funext k
  show rowS (Wm (iblk m c 2 t) (iblk m c 3 t)) (Xm (iblk m c 0 t) (iblk m c 1 t) p) (dcR (iblk m c 7 t) p) (fun k : Fin 384 => iblk m c 4 t (ix2 0 k))
    (fun h : Fin 32 => posS (iblk m c 6 t (ix2 (rowP (grid0.coords t)) p)) * iblk m c 5 t (ix2 0 h)) (fun j : Fin 64 => iblk m c 8 t (ix3 0 j p)) k = _
  rw [Xm_tok, Wm_args, dcR_tok, h4, h5, h8]
  rfl

/-- The tile's sums are the whole's runs of 128 tokens. -/
theorem sum_tok (c : Dev nD) (t : Fin cfg0.N) (q : Fin 4) (k : Fin 384) :
    sumS (Wm (iblk m c 2 t) (iblk m c 3 t)) (Xm (iblk m c 0 t) (iblk m c 1 t)) (iblk m c 7 t) q k = (args m c).dg ⟨4 * t.val + q.val, by have := lt60 t; omega⟩ k := by
  unfold sumS Args.dg
  refine Finset.sum_congr rfl fun x _ => ?_
  rw [Xm_tok, Wm_args, dcR_tok]
  have e : tokN t ⟨128 * q.val + x.val, by omega⟩ = ⟨128 * (4 * t.val + q.val) + x.val, by have := lt60 t; omega⟩ := Fin.ext (by show 512 * t.val + (128 * q.val + x.val) = 128 * (4 * t.val + q.val) + x.val; omega)
  rw [e]
  rfl

end Cert.Value

end
-- ==== Proof.Results.lean ====
/- The kernel's four results after the run, as functions of the launch's arrays. -/
module

public import proofs.«01_k».proof.Proof.Arrays

@[expose] public section

set_option maxRecDepth 65536

noncomputable section

namespace Cert.Value

open Idealize.ShloMosaic Idealize.ShloMosaic.TcCoe Idealize.ShloMosaic.Tactic
open Idealize.SL Idealize.SL.RA Idealize.SL.BI Idealize.SL.Sem
open Idealize.ShloMosaic.Rounds Cert.Spec Cert.KernelIdeal Cert.KernelIdeal.Gen
open Idealize.ShloMosaic.Pipeline (Dat RDat Cfg Window cellOf)

variable (m : (ℓ : Loc nD τ sig) → Buf (Elt Ideal) ℓ) (ρ : Dev nD → PrngReg)

theorem leaves9 (c : Dev nD) (t : Fin cfg0.N) (X) (h : (rdat m c).Leaves 9 t X) : X = dxAt m c t := by
  obtain ⟨Y, _, h⟩ := h; exact h

theorem leaves11 (c : Dev nD) (t : Fin cfg0.N) (X) (h : (rdat m c).Leaves 11 t X) : X = codesAt m c t := by
  obtain ⟨Y, _, h⟩ := h; exact h

theorem leaves12 (c : Dev nD) (t : Fin cfg0.N) (X) (h : (rdat m c).Leaves 12 t X) : X = scalesAt m c t := by
  obtain ⟨Y, _, h⟩ := h; exact h

theorem leaves10 (c : Dev nD) (t : Fin cfg0.N) (hf : (cfg0.win 10).flush t = true) (X) (h : (rdat m c).Leaves 10 t X) :
    ∃ Y, X = dgAt m c t (dgAt m c ⟨t.val - 1, by omega⟩ Y) := by
  have h1 : t.val % 2 = 1 := (flush0_10 t).mp hf
  obtain ⟨Y, hF, h⟩ := h
  have h' : X = dgAt m c t Y := h
  have hfe : (cfg0.win 10).fetch t = false := Window.fetch_out _ rfl t
  rcases ((rdat m c).finds_of_pos hfe (by omega) Y).mp hF with hfl | hl
  · have := (flush0_10 _).mp hfl
    exact absurd this (by show ¬ ((t.val - 1) % 2 = 1); omega)
  · obtain ⟨Y', _, hl⟩ := hl
    have hl' : Y = dgAt m c ⟨t.val - 1, by omega⟩ Y' := hl
    exact ⟨Y', by rw [h', hl']⟩

/-- What each written-back block holds. -/
def Left (c : Dev nD) (after : (w : Fin cfg0.W) → Fin cfg0.N → (cfg0.win w).block.Idx → Elt Ideal (cfg0.win w).elt) : Prop :=
  ∀ (w : Fin cfg0.W) (u : Fin cfg0.N), (cfg0.win w).flush u = true → (rdat m c).Leaves w u (after w u)

/-- Row `p` of tile `t`'s block of the gradient of the input is its token's. -/
theorem dx_block (c : Dev nD) (t : Fin cfg0.N) (p : Fin 512) (d : Fin 3584) : dxAt m c t (ix2 p d) = (args m c).dx (tokN t p) d := by
  show dxS (Wm (iblk m c 2 t) (iblk m c 3 t)) (gRow (grid0.coords t) (iblk m c 0 t) (iblk m c 1 t) (iblk m c 2 t) (iblk m c 3 t) (iblk m c 4 t) (iblk m c 5 t) (iblk m c 6 t) (iblk m c 7 t) (iblk m c 8 t) p) d = _
  rw [gRow_tok, Wm_args]; rfl

theorem codes_block (c : Dev nD) (t : Fin cfg0.N) (k : Fin 448) (p : Fin 512) : codesAt m c t (ix3 0 k p) = (args m c).codes (batch (tokN t p)) k (place (tokN t p)) := by
  show codeS (gRow (grid0.coords t) (iblk m c 0 t) (iblk m c 1 t) (iblk m c 2 t) (iblk m c 3 t) (iblk m c 4 t) (iblk m c 5 t) (iblk m c 6 t) (iblk m c 7 t) (iblk m c 8 t) p) k = _
  rw [gRow_tok]; rfl

theorem scales_block (c : Dev nD) (t : Fin cfg0.N) (k : Fin 14) (p : Fin 512) : scalesAt m c t (ix3 0 k p) = (args m c).scales (batch (tokN t p)) k (place (tokN t p)) := by
  show scaleS (gRow (grid0.coords t) (iblk m c 0 t) (iblk m c 1 t) (iblk m c 2 t) (iblk m c 3 t) (iblk m c 4 t) (iblk m c 5 t) (iblk m c 6 t) (iblk m c 7 t) (iblk m c 8 t) p) k = _
  rw [gRow_tok]; rfl

/-- A point's update of the gain's block: its own rows are the sums of its tile. -/
theorem dg_block (c : Dev nD) (t : Fin cfg0.N) (y : Vec Ideal S8x384 .f32) (r : Fin 8) (k : Fin 384) :
    dgAt m c t y (ix2 r k) = if r.val / 4 = t.val % 2 then (args m c).dg ⟨4 * t.val + r.val % 4, by have := lt60 t; omega⟩ k else y (ix2 r k) := by
  show (if r.val / 4 = (grid0.coords t 0).val % 2 then sumS (Wm (iblk m c 2 t) (iblk m c 3 t)) (Xm (iblk m c 0 t) (iblk m c 1 t)) (iblk m c 7 t) ⟨r.val % 4, Nat.mod_lt _ (by omega)⟩ k else y (ix2 r k)) = _
  rw [coord t, sum_tok]

/-- After an odd point the gain's block holds the sums of that point's tile and of the one before. -/
theorem dg_pair (c : Dev nD) (t : Fin cfg0.N) (h1 : t.val % 2 = 1) (y : Vec Ideal S8x384 .f32) (r : Fin 8) (k : Fin 384) :
    dgAt m c t (dgAt m c ⟨t.val - 1, by omega⟩ y) (ix2 r k) = (args m c).dg ⟨8 * (t.val / 2) + r.val, by have := lt60 t; omega⟩ k := by
  rw [dg_block]
  split
  · next h => exact congrArg (fun n => (args m c).dg n k) (Fin.ext (by show 4 * t.val + r.val % 4 = 8 * (t.val / 2) + r.val; omega))
  · next h =>
    rw [dg_block, if_pos (by show r.val / 4 = (t.val - 1) % 2; omega)]
    exact congrArg (fun n => (args m c).dg n k) (Fin.ext (by show 4 * (t.val - 1) + r.val % 4 = 8 * (t.val / 2) + r.val; omega))

theorem arr9 (c : Dev nD) (after) (hL : Left m c after) :
    ((rdat m c).withAfter after).arrAt 9 cfg0.N = fun i => (args m c).dx (i 0) (i 1) := by
  refine ((rdat m c).withAfter after).arrAt_eq_of_covers 9 _ (by decide +kernel) fun t hf y => ?_
  have h := leaves9 m c t _ (hL 9 t hf)
  let p : Fin 512 := y 0
  let d : Fin 3584 := y 1
  have e : y = ix2 p d := by funext a; match a with | ⟨0, _⟩ => rfl | ⟨1, _⟩ => rfl
  have e0 : (win0_9.blk t).view.emb y 0 = tokN t p := Fin.ext (by blk_simp [idx t]; show _ = 512 * t.val + (y 0).val; omega)
  have e1 : (win0_9.blk t).view.emb y 1 = d := Fin.ext (by blk_simp [idx t]; show _ = (y 1).val; omega)
  blk_simp
  rw [e0, e1]
  exact ((congrFun h y).trans (congrArg (dxAt m c t) e)).trans (dx_block m c t p d)

theorem arr10 (c : Dev nD) (after) (hL : Left m c after) :
    ((rdat m c).withAfter after).arrAt 10 cfg0.N = fun i => (args m c).dg (i 0) (i 1) := by
  refine ((rdat m c).withAfter after).arrAt_eq_of_covers 10 _ (by decide +kernel) fun t hf y => ?_
  obtain ⟨Y, h⟩ := leaves10 m c t hf _ (hL 10 t hf)
  have h1 : t.val % 2 = 1 := (flush0_10 t).mp hf
  let p : Fin 8 := y 0
  let d : Fin 384 := y 1
  have e : y = ix2 p d := by funext a; match a with | ⟨0, _⟩ => rfl | ⟨1, _⟩ => rfl
  have e0 : (win0_10.blk t).view.emb y 0 = (⟨8 * (t.val / 2) + p.val, by have := lt60 t; have := p.isLt; omega⟩ : Fin 240) :=
    Fin.ext (by blk_simp [idx t]; show _ = 8 * (t.val / 2) + (y 0).val; omega)
  have e1 : (win0_10.blk t).view.emb y 1 = d := Fin.ext (by blk_simp [idx t]; show _ = (y 1).val; omega)
  blk_simp
  rw [e0, e1]
  exact ((congrFun h y).trans (congrArg (dgAt m c t (dgAt m c ⟨t.val - 1, by exact lt_of_le_of_lt (Nat.sub_le _ _) t.isLt⟩ Y)) e)).trans (dg_pair m c t h1 Y p d)

theorem arr11 (c : Dev nD) (after) (hL : Left m c after) :
    ((rdat m c).withAfter after).arrAt 11 cfg0.N = fun i => (args m c).codes (i 0) (i 1) (i 2) := by
  refine ((rdat m c).withAfter after).arrAt_eq_of_covers 11 _ (by decide +kernel) fun t hf y => ?_
  have h := leaves11 m c t _ (hL 11 t hf)
  let k : Fin 448 := y 1
  let p : Fin 512 := y 2
  have hb := batch_tok t p
  have hp := place_tok t p
  have hy : (y 0).val < 1 := (y 0).isLt
  have e : y = ix3 0 k p := by funext a; match a with | ⟨0, _⟩ => exact Fin.ext (by show (y 0).val = 0; omega) | ⟨1, _⟩ => rfl | ⟨2, _⟩ => rfl
  have e0 : (win0_11.blk t).view.emb y 0 = batch (tokN t p) := Fin.ext (by rw [hb]; blk_simp [idx t] <;> omega)
  have e1 : (win0_11.blk t).view.emb y 1 = k := Fin.ext (by blk_simp [idx t]; show _ = (y 1).val; omega)
  have e2 : (win0_11.blk t).view.emb y 2 = place (tokN t p) := Fin.ext (by rw [hp]; blk_simp [idx t]; show _ = 512 * (t.val % 30) + (y 2).val; omega)
  blk_simp
  rw [e0, e1, e2]
  exact ((congrFun h y).trans (congrArg (codesAt m c t) e)).trans (codes_block m c t k p)

theorem arr12 (c : Dev nD) (after) (hL : Left m c after) :
    ((rdat m c).withAfter after).arrAt 12 cfg0.N = fun i => (args m c).scales (i 0) (i 1) (i 2) := by
  refine ((rdat m c).withAfter after).arrAt_eq_of_covers 12 _ (by decide +kernel) fun t hf y => ?_
  have h := leaves12 m c t _ (hL 12 t hf)
  let k : Fin 14 := y 1
  let p : Fin 512 := y 2
  have hb := batch_tok t p
  have hp := place_tok t p
  have hy : (y 0).val < 1 := (y 0).isLt
  have e : y = ix3 0 k p := by funext a; match a with | ⟨0, _⟩ => exact Fin.ext (by show (y 0).val = 0; omega) | ⟨1, _⟩ => rfl | ⟨2, _⟩ => rfl
  have e0 : (win0_12.blk t).view.emb y 0 = batch (tokN t p) := Fin.ext (by rw [hb]; blk_simp [idx t] <;> omega)
  have e1 : (win0_12.blk t).view.emb y 1 = k := Fin.ext (by blk_simp [idx t]; show _ = (y 1).val; omega)
  have e2 : (win0_12.blk t).view.emb y 2 = place (tokN t p) := Fin.ext (by rw [hp]; blk_simp [idx t]; show _ = 512 * (t.val % 30) + (y 2).val; omega)
  blk_simp
  rw [e0, e1, e2]
  exact ((congrFun h y).trans (congrArg (scalesAt m c t) e)).trans (scales_block m c t k p)

/-- The launch's four results, in terms of the launch's arrays. -/
def Holds (m' : (ℓ : Loc nD τ sig) → Buf (Elt Ideal) ℓ) (c : Dev nD) : Prop :=
  (m' ((c : Thread nD τ).loc main_v17_0) = fun i => (args m c).dx (i 0) (i 1)) ∧
  (m' ((c : Thread nD τ).loc main_v17_1) = fun i => (args m c).dg (i 0) (i 1)) ∧
  (m' ((c : Thread nD τ).loc main_v17_2) = fun i => (args m c).codes (i 0) (i 1) (i 2)) ∧
  (m' ((c : Thread nD τ).loc main_v17_3) = fun i => (args m c).scales (i 0) (i 1) (i 2))

/-- Of the frame run's post, each result array. -/
theorem holds_of_post (r : PUnit × MemSt nD τ sig (Elt Ideal)) (h : RDat.FramePost (cfgs 0) (rdat m) (V m) r) (c : Dev nD) : Holds m r.2.mem c := by
  obtain ⟨after, hL, hA⟩ := h.exists_exact c
  exact ⟨(hA 9).trans (arr9 m c after hL), (hA 10).trans (arr10 m c after hL), (hA 11).trans (arr11 m c after hL), (hA 12).trans (arr12 m c after hL)⟩

end Cert.Value

end
-- ==== Proof.IdealFrame.lean ====
/- The frame of the kernel over the extended reals. -/
module

public import proofs.«01_k».proof.Proof.Results

@[expose] public section

set_option maxRecDepth 65536

noncomputable section

namespace Cert.Value

open Idealize.ShloMosaic Idealize.ShloMosaic.TcCoe
open Idealize.SL Idealize.SL.RA Idealize.SL.BI Idealize.SL.Sem
open Idealize.ShloMosaic.Rounds Cert.Spec Cert.KernelIdeal Cert.KernelIdeal.Gen
open Idealize.ShloMosaic.Pipeline (Dat RDat Cfg Window cellOf)

variable (m : (ℓ : Loc nD τ sig) → Buf (Elt Ideal) ℓ) (ρ : Dev nD → PrngReg)

/-- The proof data's arrays are what the launch finds. -/
theorem rdat_A (c : Dev nD) (w : Fin cfg0.W) : (rdat m c).A w = V m c (Pipeline.arrRef spec0 w) := tileDat_A m c w

/-- Every argument array as the launch found it. -/
def Unchanged (r : PUnit × MemSt nD τ sig (Elt Ideal)) (c : Dev nD) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)

/-- Of the frame run's post, each argument array. -/
theorem unchanged_of_post (r : PUnit × MemSt nD τ sig (Elt Ideal)) (h : RDat.FramePost (cfgs 0) (rdat m) (V m) r) (c : Dev nD) : Unchanged m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((rdat_A m c 2).trans (V_main_arg2 m c)),
    (RDat.FramePost.arr_in h c 3 rfl).trans ((rdat_A m c 3).trans (V_main_arg3 m c)),
    ((h c).2 main_arg4 (Pipeline.mem_restRefs_of main_arg4 (by decide) (by decide))).trans (V_main_arg4 m c),
    (RDat.FramePost.arr_in h c 6 rfl).trans ((rdat_A m c 6).trans (V_main_arg5 m c)),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: every execution ends, with the argument arrays unchanged and every counter at zero. -/
theorem frame : θ_run defs (onTc (τ := τ) (main (F := Ideal))) ⟨m, fun _ => 0, ρ⟩ (fun r => (∀ c : Dev nD, Unchanged m r c) ∧ r.2.sem = fun _ => 0) :=
  (θ_run defs _ _).mono (fun r h => ⟨unchanged_of_post m r h.1, h.2⟩) (run m ρ)

/-- Every execution ends with the four results as stated and the arguments unchanged. -/
theorem results : θ_run defs (onTc (τ := τ) (main (F := Ideal))) ⟨m, fun _ => 0, ρ⟩ (fun r => ∀ c : Dev nD, Holds m r.2.mem c ∧ Unchanged m r c) :=
  (θ_run defs _ _).mono (fun r h c => ⟨holds_of_post m r h.1 c, unchanged_of_post m r h.1 c⟩) (run m ρ)

end Cert.Value

end
-- ==== Proof.RefArrays.lean ====
/- The reference's operands against the arrays they are made from. -/
module

public import proofs.«01_k».proof.Proof.Whole
public import proofs.«01_k».proof.Proof.Gen.ReferenceIdeal.Frame
public import Idealize.ShloMosaic.Lib.Pipeline.ValueKit

@[expose] public section

set_option maxRecDepth 65536

noncomputable section

namespace Cert.RefValue

open Idealize.ShloMosaic Idealize.ShloMosaic.TcCoe Idealize.ShloMosaic.Tactic Idealize.SL.Sem
open Cert.Spec Cert.ReferenceIdeal Cert.ReferenceIdeal.Gen
open Cert.KernelIdeal.Gen (posS)

variable (m : (ℓ : Loc nD τ sig) → Buf (Elt Ideal) ℓ)

/-- The reference's arrays on device `c`. -/
def args (c : Dev nD) : Args where
  x b s d := m ((c : Thread nD τ).loc main_arg0) (ix3 b s d)
  xs b s j := m ((c : Thread nD τ).loc main_arg1) (ix3 b s j)
  w k d := m ((c : Thread nD τ).loc main_arg2) (ix2 k d)
  ws k j := m ((c : Thread nD τ).loc main_arg3) (ix2 k j)
  gain k := m ((c : Thread nD τ).loc main_arg4) (ix1 k)
  pos b s := m ((c : Thread nD τ).loc main_arg5) (ix2 b s)
  dc b s k := m ((c : Thread nD τ).loc main_arg6) (ix3 b s k)
  dk b s j := m ((c : Thread nD τ).loc main_arg7) (ix3 b s j)

/-- The flattened input is the input. -/
theorem entry35 (c : Dev nD) (n : Fin 30720) (d : Fin 3584) : V m c main_v35 (ix2 n d) = (args m c).x (batch n) (place n) d := by
  show _ = m ((c : Thread nD τ).loc main_arg0) (ix3 (⟨n.val / 15360, by omega⟩ : Fin 2) (⟨n.val % 15360, by omega⟩ : Fin 15360) d)
  entry_read
  pointwise

/-- The flattened scales are the input's scales. -/
theorem entry36 (c : Dev nD) (n : Fin 30720) (d : Fin 112) : V m c main_v36 (ix2 n d) = (args m c).xs (batch n) (place n) d := by
  show _ = m ((c : Thread nD τ).loc main_arg1) (ix3 (⟨n.val / 15360, by omega⟩ : Fin 2) (⟨n.val % 15360, by omega⟩ : Fin 15360) d)
  entry_read
  pointwise

/-- The gain's row is the gain. -/
theorem entry37 (c : Dev nD) (k : Fin 384) : V m c main_v37 (ix2 0 k) = (args m c).gain k := by
  show _ = m ((c : Thread nD τ).loc main_arg4) (ix1 k)
  entry_read
  pointwise

/-- The flattened gradient of the compressed rows is that gradient. -/
theorem entry38 (c : Dev nD) (n : Fin 30720) (d : Fin 384) : V m c main_v38 (ix2 n d) = (args m c).dc (batch n) (place n) d := by
  show _ = m ((c : Thread nD τ).loc main_arg6) (ix3 (⟨n.val / 15360, by omega⟩ : Fin 2) (⟨n.val % 15360, by omega⟩ : Fin 15360) d)
  entry_read
  pointwise

/-- The first of a turned pair. -/
theorem turn_even (a d0 d1 : EReal) (p : Nat) (h : p = 0) : ropeS a d0 d1 p = d0 * Ideal.cos a + d1 * Ideal.sin a := if_pos h

/-- The second of a turned pair. -/
theorem turn_odd (a d0 d1 : EReal) (p : Nat) (h : p ≠ 0) : ropeS a d0 d1 p = -d0 * Ideal.sin a + d1 * Ideal.cos a := by
  unfold ropeS; rw [if_neg h, zero_sub]

/-- The rotated gradient: each pair of the incoming gradient turned by its position's angle. -/
theorem entry39 (c : Dev nD) (n : Fin 30720) (j : Fin 64) :
    V m c main_v39 (ix2 n j) = ropeS (posS ((args m c).pos (batch n) (place n)) * freqS ⟨j.val / 2, by omega⟩)
      ((args m c).dk (batch n) (place n) ⟨2 * (j.val / 2), by omega⟩) ((args m c).dk (batch n) (place n) ⟨2 * (j.val / 2) + 1, by omega⟩) (j.val % 2) := by
  have h0 : (⟨2 * (j.val / 2), by omega⟩ : Fin 64) = ⟨j.val / 2 * 2, by omega⟩ := Fin.ext (Nat.mul_comm _ _)
  have h1 : (⟨2 * (j.val / 2) + 1, by omega⟩ : Fin 64) = ⟨j.val / 2 * 2 + 1, by omega⟩ := Fin.ext (congrArg (· + 1) (Nat.mul_comm _ _))
  rw [h0, h1]
  have ang : posS ((args m c).pos (batch n) (place n)) * freqS ⟨j.val / 2, by omega⟩ =
      FloatOps.sitofp (F := Ideal) FTy.f32 (m (c, Proc.tc.devRef main_arg5) (ix2 (⟨n.val / 15360, by omega⟩ : Fin 2) (⟨n.val % 15360, Nat.mod_lt _ (by omega)⟩ : Fin 15360))) *
      Ideal.div 1 (Ideal.pow (Ideal.ofBits FTy.f32 1176256512#32)
        (Ideal.div (Ideal.ofBits FTy.f32 1073741824#32 * FloatOps.sitofp (F := Ideal) FTy.f32 (BitVec.ofNat 32 (j.val / 2))) (Ideal.ofBits FTy.f32 1115684864#32))) := rfl
  have dk : ∀ q : Fin 64, (args m c).dk (batch n) (place n) q = m (c, Proc.tc.devRef main_arg7) (ix3 (⟨n.val / 15360, by omega⟩ : Fin 2) (⟨n.val % 15360, Nat.mod_lt _ (by omega)⟩ : Fin 15360) q) := fun _ => rfl
  rw [ang, dk, dk]
  entry_read
  pointwise
  split
  · next h =>
    refine Eq.trans ?_ (turn_even _ _ _ _ (by omega)).symm
    rfl
  · next h =>
    refine Eq.trans ?_ (turn_odd _ _ _ _ (by omega)).symm
    rfl

/-- Every window is the whole of its array. -/
theorem idx : ∀ t : Fin grid0.N, win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧ win0_8.index t = ![0, 0] ∧
    win0_9.index t = ![0, 0, 0] ∧ win0_10.index t = ![0, 0, 0] := by
  decide +kernel

theorem blk4 (c : Dev nD) (t : Fin cfg0.N) (k : Fin 384) : iblk m c 4 t (ix2 0 k) = (args m c).gain k := by
  have h : iblk m c 4 t (ix2 0 k) = V m c main_v37 (ix2 0 k) := by blk_ext [iblk, idx t]
  exact h.trans (entry37 m c k)

theorem blk0 (c : Dev nD) (t : Fin cfg0.N) (n : Fin 30720) (d : Fin 3584) : iblk m c 0 t (ix2 n d) = (args m c).x (batch n) (place n) d := by
  have h : iblk m c 0 t (ix2 n d) = V m c main_v35 (ix2 n d) := by blk_ext [iblk, idx t]
  exact h.trans (entry35 m c n d)

theorem blk1 (c : Dev nD) (t : Fin cfg0.N) (n : Fin 30720) (d : Fin 112) : iblk m c 1 t (ix2 n d) = (args m c).xs (batch n) (place n) d := by
  have h : iblk m c 1 t (ix2 n d) = V m c main_v36 (ix2 n d) := by blk_ext [iblk, idx t]
  exact h.trans (entry36 m c n d)

theorem blk2 (c : Dev nD) (t : Fin cfg0.N) (k : Fin 448) (d : Fin 3584) : iblk m c 2 t (ix2 k d) = (args m c).w k d := by
  have h : iblk m c 2 t (ix2 k d) = V m c main_arg2 (ix2 k d) := by blk_ext [iblk, idx t]
  exact h.trans (congrFun (V_main_arg2 m c) _)

theorem blk3 (c : Dev nD) (t : Fin cfg0.N) (k : Fin 448) (d : Fin 112) : iblk m c 3 t (ix2 k d) = (args m c).ws k d := by
  have h : iblk m c 3 t (ix2 k d) = V m c main_arg3 (ix2 k d) := by blk_ext [iblk, idx t]
  exact h.trans (congrFun (V_main_arg3 m c) _)

theorem blk5 (c : Dev nD) (t : Fin cfg0.N) (n : Fin 30720) (d : Fin 384) : iblk m c 5 t (ix2 n d) = (args m c).dc (batch n) (place n) d := by
  have h : iblk m c 5 t (ix2 n d) = V m c main_v38 (ix2 n d) := by blk_ext [iblk, idx t]
  exact h.trans (entry38 m c n d)

theorem blk6 (c : Dev nD) (t : Fin cfg0.N) (n : Fin 30720) (j : Fin 64) :
    iblk m c 6 t (ix2 n j) = ropeS (posS ((args m c).pos (batch n) (place n)) * freqS ⟨j.val / 2, by omega⟩)
      ((args m c).dk (batch n) (place n) ⟨2 * (j.val / 2), by omega⟩) ((args m c).dk (batch n) (place n) ⟨2 * (j.val / 2) + 1, by omega⟩) (j.val % 2) := by
  have h : iblk m c 6 t (ix2 n j) = V m c main_v39 (ix2 n j) := by blk_ext [iblk, idx t]
  exact h.trans (entry39 m c n j)

end Cert.RefValue

end
-- ==== Proof.RefRows.lean ====
/- The reference's values at an index. -/
module

public import proofs.«01_k».proof.Proof.Spec
public import proofs.«01_k».proof.Proof.Gen.ReferenceIdeal.Skeleton
public import Idealize.ShloMosaic.Lib.Pipeline.ValueKit

@[expose] public section

set_option maxRecDepth 65536

noncomputable section

namespace Cert.ReferenceIdeal.Gen

open Idealize.ShloMosaic Idealize.ShloMosaic.TcCoe Idealize.ShloMosaic.Tactic Cert.Spec

variable (w : Vec Ideal S448x3584 .fp8e4m3) (ws : Vec Ideal S448x112 .i8) (x : Vec Ideal S30720x3584 .fp8e4m3) (xs : Vec Ideal S30720x112 .i8)

/-- A scale's zero case may be taken before the product or after it. -/
theorem select_mul (a : BitVec 1) (v y : EReal) : Scalar.select a (0 : EReal) (v * y) = v * Scalar.select a (0 : EReal) y := by
  unfold Scalar.select
  split
  · rw [mul_zero]
  · rfl

/-- The weight: its codes times its scales. -/
theorem w_apply (k : Fin 448) (d : Fin 3584) : k0_pay2 (F := Ideal) w ws (ix2 k d) = w (ix2 k d) * dec (ws (ix2 k ⟨d.val / 32, by omega⟩)) := by
  refine Eq.trans ?_ (select_mul _ _ _)
  pointwise [k0_pay2]
  rfl

/-- The input's scales. -/
theorem xs_apply (n : Fin 30720) (j : Fin 112) : k0_pay4 (F := Ideal) xs (ix2 n j) = dec (xs (ix2 n j)) := by
  pointwise [k0_pay4]
  rfl

/-- The input's codes, block by block. -/
theorem x_apply (n : Fin 30720) (j : Fin 112) (l : Fin 32) : k0_pay3 (F := Ideal) x (ix3 n j l) = x (ix2 n ⟨j.val * 32 + l.val, by omega⟩) := by
  pointwise [k0_pay3]

variable (W : Vec Ideal S448x3584 .bf16) (X3 : Vec Ideal S30720x112x32 .bf16) (S : Vec Ideal S30720x112 .bf16)

/-- The input's values in row `n`. -/
def rowX (n : Fin 30720) (d : Fin 3584) : EReal :=
  X3 (ix3 n ⟨d.val / 32, by omega⟩ ⟨d.val % 32, Nat.mod_lt _ (by omega)⟩) * S (ix2 n ⟨d.val / 32, by omega⟩)

/-- The compressed row. -/
def rowC (n : Fin 30720) (k : Fin 384) : EReal := cS (fun k d => W (ix2 k d)) (rowX X3 S n) k

theorem c_apply (n : Fin 30720) (k : Fin 384) : k0_pay5 (F := Ideal) W X3 S (ix2 n k) = rowC W X3 S n k := by
  pointwise [k0_pay5]
  rfl

theorem rstd_apply (n : Fin 30720) : k0_pay7 (F := Ideal) W X3 S (ix2 n 0) = rstdS (rowC W X3 S n) := by
  pointwise [k0_pay7, c_apply]
  rfl

variable (D : Vec Ideal S30720x384 .bf16) (G : Vec Ideal S1x384 .f32)

theorem dg_apply (r : Fin 240) (k : Fin 384) : k0_pay8 (F := Ideal) W X3 S D (ix2 r k) =
    ∑ l : Fin 128, pS (rowC W X3 S ⟨128 * r.val + l.val, by omega⟩) (fun k => D (ix2 ⟨128 * r.val + l.val, by omega⟩ k)) k := by
  pointwise [k0_pay8, k0_pay6, c_apply, rstd_apply]
  refine Finset.sum_congr rfl fun l _ => ?_
  simp only [pS, Nat.mul_comm]

theorem dc_apply (n : Fin 30720) (k : Fin 384) : k0_pay9 (F := Ideal) W X3 S D G (ix2 n k) =
    dcS (rowC W X3 S n) (fun k => D (ix2 n k)) (fun k => G (ix2 0 k)) k := by
  pointwise [k0_pay9, k0_pay6, c_apply, rstd_apply]
  rfl

end Cert.ReferenceIdeal.Gen

end
-- ==== Proof.RefExponent.lean ====
/- The exponent, the clip and the rows of the reference's quantiser. -/
module

public import proofs.«01_k».proof.Proof.Spec
public import proofs.«01_k».proof.Proof.Gen.ReferenceIdeal.Skeleton
public import Idealize.ShloMosaic.Lib.Pipeline.ValueKit

@[expose] public section

set_option maxRecDepth 65536

noncomputable section

namespace Cert.ReferenceIdeal.Gen

open Idealize.ShloMosaic Idealize.ShloMosaic.TcCoe Idealize.ShloMosaic.Tactic Cert.Spec

/-- The exponents of blocks of greatest magnitudes `r`, for any shape of `r`. -/
def expoV {s : Shape} (r : FVec Ideal s .f32) : FVec Ideal s .f32 :=
  have v91 : FVec Ideal s .f32 := mulf r (broadcast s (Scalar.ofBits (F := Ideal) .f32 0x37924925#32))
  have v94 : FVec Ideal s .f32 := divf (log v91) (broadcast s (Named.named (F := Ideal) κ "ln2" 0x3F317218#32))
  have v97 : FVec Ideal s .f32 := addf (floor v94) (broadcast s (Scalar.ofBits (F := Ideal) .f32 0x3F800000#32))
  have v99 : FVec Ideal s .f32 := maximumf (broadcast s (Scalar.ofBits (F := Ideal) .f32 0xC2FC0000#32)) v97
  have v101 : FVec Ideal s .f32 := minimumf (broadcast s (Scalar.ofBits (F := Ideal) .f32 0x42FC0000#32)) v99
  select (cmpf .oeq v91 (broadcast s (Scalar.ofBits (F := Ideal) .f32 0x00000000#32))) (broadcast s (Scalar.ofBits (F := Ideal) .f32 0x00000000#32)) v101

/-- The values clipped to the format's range, for any shape. -/
def clipV {s : Shape} (v : FVec Ideal s .f32) : FVec Ideal s .f32 :=
  minimumf (broadcast s (Scalar.ofBits (F := Ideal) .f32 0x47600000#32)) (maximumf (broadcast s (Scalar.ofBits (F := Ideal) .f32 0xC7600000#32)) v)

theorem clipV_apply {s : Shape} (v : FVec Ideal s .f32) (i : s.Idx) : clipV v i = clipc (v i) := rfl

/-- The named constant is the natural logarithm of two. -/
theorem ln2 : Named.named (F := Ideal) (φ := .f32) κ "ln2" 0x3F317218#32 = ((Real.log 2 : ℝ) : EReal) := by
  first
    | rfl
    | (simp [Named.named, κ]; done)

theorem expoV_apply {s : Shape} (r : FVec Ideal s .f32) (i : s.Idx) : expoV r i = expo (r i * Ideal.ofBits FTy.f32 932333861#32) := by
  pointwise [expoV]
  rw [ln2]; rfl

end Cert.ReferenceIdeal.Gen

end
-- ==== Proof.RefQuant.lean ====
/- The reference's quantiser at an index. -/
module

public import proofs.«01_k».proof.Proof.RefExponent

@[expose] public section

set_option maxRecDepth 65536

noncomputable section

namespace Cert.ReferenceIdeal.Gen

open Idealize.ShloMosaic Idealize.ShloMosaic.TcCoe Idealize.ShloMosaic.Tactic Cert.Spec

variable (P : FVec Ideal S30720x384 .f32) (Q : FVec Ideal S30720x64 .f32)

/-- The gradient row before it is quantised. -/
def rowG (n : Fin 30720) : Fin 448 → EReal := gS (fun k => P (ix2 n k)) (fun k => Q (ix2 n k))

theorem g_apply (n : Fin 30720) (b : Fin 14) (l : Fin 32) : k0_pay11 (F := Ideal) P Q (ix3 n b l) = rowG P Q n ⟨32 * b.val + l.val, by omega⟩ := by
  pointwise [k0_pay11]
  unfold rowG gS
  simp only [Nat.mul_comm]

/-- The greatest magnitude of a block. -/
theorem red_apply (g : FVec Ideal S30720x14x32 .f32) (n : Fin 30720) (b : Fin 14) :
    multiReduction .maximumf [2] S30720x14 (absf g) 0xFF800000#32 reduces_S30720x14x32_S30720x14 (.inl rfl) rfl (ix2 n b) =
      Finset.fold max (Ideal.ofBits FTy.f32 4286578688#32) (fun x => max (g (ix3 n b x)) (-(g (ix3 n b x)))) Finset.univ := by
  pointwise
  exact congrArg (fun f => Finset.fold max (Ideal.ofBits FTy.f32 4286578688#32) f Finset.univ) (funext fun x => rfl)

theorem pay12_eq : k0_pay12 (F := Ideal) P Q =
    expoV (multiReduction .maximumf [2] S30720x14 (absf (k0_pay11 (F := Ideal) P Q)) 0xFF800000#32 reduces_S30720x14x32_S30720x14 (.inl rfl) rfl) := by
  unfold k0_pay12 expoV
  with_reducible rfl

/-- The exponent of a block. -/
theorem e_apply (n : Fin 30720) (b : Fin 14) : k0_pay12 (F := Ideal) P Q (ix2 n b) = eS (rowG P Q n) b := by
  have h := red_apply (k0_pay11 (F := Ideal) P Q) n b
  simp only [g_apply] at h
  rw [pay12_eq, expoV_apply, h]
  unfold eS amax
  with_reducible rfl

/-- A block's factor, at each of its places. -/
theorem factor_apply (e : FVec Ideal S30720x14 .f32) (n : Fin 30720) (b : Fin 14) (l : Fin 32) :
    broadcastTo S30720x14x32 (shapeCast S30720x14x1 e shapeCasts_S30720x14_S30720x14x1) broadcasts_S30720x14x1_S30720x14x32 (ix3 n b l) = e (ix2 n b) := by
  pointwise

theorem flat_apply (x : FVec Ideal S30720x14x32 .fp8e5m2) (n : Fin 30720) (k : Fin 448) :
    shapeCast S30720x448 x shapeCasts_S30720x14x32_S30720x448 (ix2 n k) = x (ix3 n ⟨k.val / 32, by omega⟩ ⟨k.val % 32, Nat.mod_lt _ (by omega)⟩) := by
  pointwise

/-- The exponents negated and raised, for any shape. -/
def upV {s : Shape} (e : FVec Ideal s .f32) : FVec Ideal s .f32 := exp2 (subf (broadcast s (Scalar.ofBits (F := Ideal) .f32 0x00000000#32)) e)

theorem upV_apply {s : Shape} (e : FVec Ideal s .f32) (i : s.Idx) : upV e i = Ideal.exp2 (0 - e i) := by
  pointwise [upV]
  rfl

theorem pay13_eq : k0_pay13 (F := Ideal) P Q =
    shapeCast S30720x448 (truncf .fp8e5m2 (clipV (mulf (k0_pay11 (F := Ideal) P Q)
      (broadcastTo S30720x14x32 (shapeCast S30720x14x1 (upV (k0_pay12 (F := Ideal) P Q)) shapeCasts_S30720x14_S30720x14x1) broadcasts_S30720x14x1_S30720x14x32)))
      bitsLt_fp8e5m2_f32) shapeCasts_S30720x14x32_S30720x448 := by
  unfold k0_pay13 clipV upV
  with_reducible rfl

theorem narrow_apply {s : Shape} (v : FVec Ideal s .f32) (i : s.Idx) : truncf .fp8e5m2 v bitsLt_fp8e5m2_f32 i = v i := rfl

theorem mul_apply {s : Shape} (v w : FVec Ideal s .f32) (i : s.Idx) : mulf v w i = v i * w i := rfl

theorem codes_apply (n : Fin 30720) (k : Fin 448) : k0_pay13 (F := Ideal) P Q (ix2 n k) = codeS (rowG P Q n) k := by
  rw [pay13_eq, flat_apply, narrow_apply, clipV_apply, mul_apply, factor_apply, upV_apply, g_apply, e_apply]
  unfold codeS
  have e : (⟨32 * (k.val / 32) + k.val % 32, by omega⟩ : Fin 448) = k := Fin.ext (Nat.div_add_mod _ _)
  dsimp only
  rw [e]

theorem scales_apply (n : Fin 30720) (b : Fin 14) : k0_pay14 (F := Ideal) P Q (ix2 n b) = scaleS (rowG P Q n) b := by
  have he := e_apply P Q n
  unfold k0_pay14
  generalize k0_pay12 (F := Ideal) P Q = e at he ⊢
  pointwise
  rw [he]
  rfl

theorem codesT_apply (b : Fin 2) (k : Fin 448) (s : Fin 15360) : k0_pay15 (F := Ideal) P Q (ix3 b k s) = codeS (rowG P Q ⟨15360 * b.val + s.val, by omega⟩) k := by
  have hc := codes_apply P Q
  unfold k0_pay15
  generalize k0_pay13 (F := Ideal) P Q = e at hc ⊢
  pointwise
  rw [hc]
  simp only [Nat.mul_comm]

theorem scalesT_apply (b : Fin 2) (k : Fin 14) (s : Fin 15360) : k0_pay16 (F := Ideal) P Q (ix3 b k s) = scaleS (rowG P Q ⟨15360 * b.val + s.val, by omega⟩) k := by
  have hc := scales_apply P Q
  unfold k0_pay16
  generalize k0_pay14 (F := Ideal) P Q = e at hc ⊢
  pointwise
  rw [hc]
  simp only [Nat.mul_comm]

end Cert.ReferenceIdeal.Gen

end
-- ==== Proof.RefDx.lean ====
/- The reference's second product at an index. -/
module

public import proofs.«01_k».proof.Proof.Spec
public import proofs.«01_k».proof.Proof.Gen.ReferenceIdeal.Skeleton
public import Idealize.ShloMosaic.Lib.Pipeline.ValueKit

@[expose] public section

set_option maxRecDepth 65536

noncomputable section

namespace Cert.ReferenceIdeal.Gen

open Idealize.ShloMosaic Idealize.ShloMosaic.TcCoe Idealize.ShloMosaic.Tactic Cert.Spec

/-- A scale's zero case may be taken of a product of three. -/
theorem select_mul3 (a : BitVec 1) (v y w : EReal) : Scalar.select a (0 : EReal) (v * y * w) = v * Scalar.select a (0 : EReal) y * w := by
  unfold Scalar.select
  split
  · rw [mul_zero, zero_mul]
  · rfl

theorem dx_apply (W : FVec Ideal S448x3584 .bf16) (C : FVec Ideal S30720x448 .fp8e5m2) (S : IVec S30720x14 8) (n : Fin 30720) (d : Fin 3584) :
    k0_pay1 (F := Ideal) W C S (ix2 n d) = ∑ k : Fin 448, C (ix2 n k) * dec (S (ix2 n ⟨k.val / 32, by omega⟩)) * W (ix2 k d) := by
  pointwise [k0_pay1]
  refine Finset.sum_congr rfl fun k _ => (select_mul3 _ _ _ _).trans ?_
  rfl

end Cert.ReferenceIdeal.Gen

end
-- ==== Proof.RefValue.lean ====
/- What the reference's body leaves in its four results, from the arrays it is given. -/
module

public import proofs.«01_k».proof.Proof.Whole
public import proofs.«01_k».proof.Proof.RefRows
public import proofs.«01_k».proof.Proof.RefQuant
public import proofs.«01_k».proof.Proof.RefDx
public import proofs.«01_k».proof.Proof.Gen.ReferenceIdeal.Frame
public import Idealize.ShloMosaic.Lib.Pipeline.ValueKit

@[expose] public section

set_option maxRecDepth 65536

noncomputable section

namespace Cert.RefValue

open Idealize.ShloMosaic Idealize.ShloMosaic.TcCoe Idealize.ShloMosaic.Tactic Idealize.SL.Sem
open Cert.Spec Cert.ReferenceIdeal Cert.ReferenceIdeal.Gen
open Cert.KernelIdeal.Gen (posS)

theorem hz2 : (![0, 0] : Fin 2 → Nat) = fun _ => 0 := funext fun a => by fin_cases a <;> rfl
theorem hz3 : (![0, 0, 0] : Fin 3 → Nat) = fun _ => 0 := funext fun a => by fin_cases a <;> rfl

theorem batch_flat (b : Fin 2) (s : Fin 15360) : batch ⟨15360 * b.val + s.val, by omega⟩ = b :=
  Fin.ext (by show (15360 * b.val + s.val) / 15360 = b.val; omega)

theorem place_flat (b : Fin 2) (s : Fin 15360) : place ⟨15360 * b.val + s.val, by omega⟩ = s :=
  Fin.ext (by show (15360 * b.val + s.val) % 15360 = s.val; omega)

variable (A : Args) (x0 : Vec Ideal S30720x3584 .fp8e4m3) (x1 : Vec Ideal S30720x112 .i8) (x2 : Vec Ideal S448x3584 .fp8e4m3) (x3 : Vec Ideal S448x112 .i8) (x4 : Vec Ideal S1x384 .f32) (x5 : Vec Ideal S30720x384 .bf16) (x6 : Vec Ideal S30720x64 .f32)

/-- The body's operands are the arrays `A`, flattened, and the rotated gradient. -/
structure Given : Prop where
  h0 : ∀ n d, x0 (ix2 n d) = A.x (batch n) (place n) d
  h1 : ∀ n d, x1 (ix2 n d) = A.xs (batch n) (place n) d
  h2 : ∀ k d, x2 (ix2 k d) = A.w k d
  h3 : ∀ k d, x3 (ix2 k d) = A.ws k d
  h4 : ∀ k, x4 (ix2 0 k) = A.gain k
  h5 : ∀ n d, x5 (ix2 n d) = A.dc (batch n) (place n) d
  h6 : ∀ (n : Fin 30720) (j : Fin 64), x6 (ix2 n j) = ropeS (posS (A.pos (batch n) (place n)) * freqS ⟨j.val / 2, by omega⟩)
    (A.dk (batch n) (place n) ⟨2 * (j.val / 2), by omega⟩) (A.dk (batch n) (place n) ⟨2 * (j.val / 2) + 1, by omega⟩) (j.val % 2)

variable {A x0 x1 x2 x3 x4 x5 x6} (H : Given A x0 x1 x2 x3 x4 x5 x6)
include H

theorem W_of (k : Fin 448) (d : Fin 3584) : k0_pay17 x0 x1 x2 x3 x4 x5 x6 (ix2 k d) = A.W k d := by
  unfold k0_pay17
  rw [View.ld_unit_zero hz2, View.ld_unit_zero hz2, w_apply, H.h2, H.h3]
  rfl

theorem rowX_of (n : Fin 30720) : rowX (k0_pay18 x0 x1 x2 x3 x4 x5 x6) (k0_pay19 x0 x1 x2 x3 x4 x5 x6) n = A.X (batch n) (place n) := by
  funext d
  unfold rowX k0_pay18 k0_pay19
  rw [View.ld_unit_zero hz2, View.ld_unit_zero hz2, x_apply, xs_apply, H.h0, H.h1]
  have e : (⟨d.val / 32 * 32 + d.val % 32, by omega⟩ : Fin 3584) = d := Fin.ext (by show d.val / 32 * 32 + d.val % 32 = d.val; omega)
  unfold Args.X
  exact congrArg (fun e => A.x (batch n) (place n) e * dec (A.xs (batch n) (place n) ⟨d.val / 32, by omega⟩)) e

theorem rowC_of (n : Fin 30720) : rowC (k0_pay17 x0 x1 x2 x3 x4 x5 x6) (k0_pay18 x0 x1 x2 x3 x4 x5 x6) (k0_pay19 x0 x1 x2 x3 x4 x5 x6) n = cS A.W (A.X (batch n) (place n)) := by
  funext k
  unfold rowC
  rw [rowX_of H n, show (fun (k : Fin 448) (d : Fin 3584) => k0_pay17 x0 x1 x2 x3 x4 x5 x6 (ix2 k d)) = A.W from funext fun k => funext fun d => W_of H k d]

theorem dc5_of (n : Fin 30720) : (fun k : Fin 384 => View.ld x5 r0_4 (ix2 n k)) = A.dc (batch n) (place n) := by
  funext k
  rw [View.ld_unit_zero hz2, H.h5]

theorem dc_of (n : Fin 30720) (k : Fin 384) : k0_pay20 x0 x1 x2 x3 x4 x5 x6 (ix2 n k) = dcS (cS A.W (A.X (batch n) (place n))) (A.dc (batch n) (place n)) A.gain k := by
  unfold k0_pay20
  rw [dc_apply, rowC_of H n, dc5_of H n]
  have e : (fun k : Fin 384 => View.ld x4 r0_6 (ix2 0 k)) = A.gain := funext fun k => by rw [View.ld_unit_zero hz2, H.h4]
  rw [e]

/-- The row the reference quantises is the token's row. -/
theorem rowG_of (n : Fin 30720) : rowG (k0_pay20 x0 x1 x2 x3 x4 x5 x6) (k0_pay21 x0 x1 x2 x3 x4 x5 x6) n = A.row (batch n) (place n) := by
  have e1 : (fun k : Fin 384 => k0_pay20 x0 x1 x2 x3 x4 x5 x6 (ix2 n k)) = dcS (cS A.W (A.X (batch n) (place n))) (A.dc (batch n) (place n)) A.gain := funext fun k => dc_of H n k
  have e2 : ∀ j : Fin 64, k0_pay21 x0 x1 x2 x3 x4 x5 x6 (ix2 n j) = ropeS (posS (A.pos (batch n) (place n)) * freqS ⟨j.val / 2, by omega⟩)
    (A.dk (batch n) (place n) ⟨2 * (j.val / 2), by omega⟩) (A.dk (batch n) (place n) ⟨2 * (j.val / 2) + 1, by omega⟩) (j.val % 2) := fun j => by
    refine Eq.trans ?_ (H.h6 n j)
    unfold k0_pay21
    rw [View.ld_unit_zero hz2]
    pointwise [k0_pay10]
  unfold rowG
  rw [e1, funext e2]
  rfl

/-- The gradient of the input. -/
theorem out7_apply (n : Fin 30720) (d : Fin 3584) : out0_7 x0 x1 x2 x3 x4 x5 x6 (ix2 n d) = A.dx n d := by
  unfold out0_7
  rw [View.canon_unit_zero hz2, dx_apply]
  unfold Args.dx dxS gradS
  refine Finset.sum_congr rfl fun k _ => ?_
  rw [codes_apply, scales_apply, rowG_of H n, W_of H k d]

/-- The gradient of the gain. -/
theorem out8_apply (r : Fin 240) (k : Fin 384) : out0_8 x0 x1 x2 x3 x4 x5 x6 (ix2 r k) = A.dg r k := by
  unfold out0_8
  rw [View.canon_unit_zero hz2, dg_apply]
  unfold Args.dg Args.term
  refine Finset.sum_congr rfl fun l _ => ?_
  rw [rowC_of H, dc5_of H]

/-- The codes. -/
theorem out9_apply (b : Fin 2) (k : Fin 448) (s : Fin 15360) : out0_9 x0 x1 x2 x3 x4 x5 x6 (ix3 b k s) = A.codes b k s := by
  unfold out0_9
  rw [View.canon_unit_zero hz3, codesT_apply, rowG_of H, batch_flat, place_flat]
  rfl

/-- The scales. -/
theorem out10_apply (b : Fin 2) (k : Fin 14) (s : Fin 15360) : out0_10 x0 x1 x2 x3 x4 x5 x6 (ix3 b k s) = A.scales b k s := by
  unfold out0_10
  rw [View.canon_unit_zero hz3, scalesT_apply, rowG_of H, batch_flat, place_flat]
  rfl

end Cert.RefValue

end
-- ==== Proof.RefResults.lean ====
/- The reference's four results after the run, as functions of its arrays. -/
module

public import proofs.«01_k».proof.Proof.RefArrays
public import proofs.«01_k».proof.Proof.RefValue

@[expose] public section

set_option maxRecDepth 65536

noncomputable section

namespace Cert.RefValue

open Idealize.ShloMosaic Idealize.ShloMosaic.TcCoe Idealize.ShloMosaic.Tactic Idealize.SL.Sem
open Cert.Spec Cert.ReferenceIdeal Cert.ReferenceIdeal.Gen

variable (m : (ℓ : Loc nD τ sig) → Buf (Elt Ideal) ℓ) (ρ : Dev nD → PrngReg)

/-- The blocks the body reads are the arrays. -/
theorem given (c : Dev nD) (t : Fin cfg0.N) :
    Given (args m c) (iblk m c 0 t) (iblk m c 1 t) (iblk m c 2 t) (iblk m c 3 t) (iblk m c 4 t) (iblk m c 5 t) (iblk m c 6 t) :=
  ⟨blk0 m c t, blk1 m c t, blk2 m c t, blk3 m c t, blk4 m c t, blk5 m c t, blk6 m c t⟩

theorem arr7 (c : Dev nD) : (dats m 0 c).arrAt 7 cfg0.N = fun i => (args m c).dx (i 0) (i 1) := by
  refine (dats m 0 c).arrAt_eq_of_covers 7 _ (by decide +kernel) fun t hf y => ?_
  let y0 : Fin 30720 := y 0
  let y1 : Fin 3584 := y 1
  have e : y = ix2 y0 y1 := by funext a; match a with | ⟨0, _⟩ => rfl | ⟨1, _⟩ => rfl
  have e0 : (win0_7.blk t).view.emb y 0 = y0 := Fin.ext (by blk_simp [idx t]; show _ = (y 0).val; omega)
  have e1 : (win0_7.blk t).view.emb y 1 = y1 := Fin.ext (by blk_simp [idx t]; show _ = (y 1).val; omega)
  blk_simp
  rw [e0, e1]
  exact ((congrFun (after0_7 m c t) y).trans (congrArg (out0_7 (iblk m c 0 t) (iblk m c 1 t) (iblk m c 2 t) (iblk m c 3 t) (iblk m c 4 t) (iblk m c 5 t) (iblk m c 6 t)) e)).trans (out7_apply (given m c t) y0 y1)

theorem arr8 (c : Dev nD) : (dats m 0 c).arrAt 8 cfg0.N = fun i => (args m c).dg (i 0) (i 1) := by
  refine (dats m 0 c).arrAt_eq_of_covers 8 _ (by decide +kernel) fun t hf y => ?_
  let y0 : Fin 240 := y 0
  let y1 : Fin 384 := y 1
  have e : y = ix2 y0 y1 := by funext a; match a with | ⟨0, _⟩ => rfl | ⟨1, _⟩ => rfl
  have e0 : (win0_8.blk t).view.emb y 0 = y0 := Fin.ext (by blk_simp [idx t]; show _ = (y 0).val; omega)
  have e1 : (win0_8.blk t).view.emb y 1 = y1 := Fin.ext (by blk_simp [idx t]; show _ = (y 1).val; omega)
  blk_simp
  rw [e0, e1]
  exact ((congrFun (after0_8 m c t) y).trans (congrArg (out0_8 (iblk m c 0 t) (iblk m c 1 t) (iblk m c 2 t) (iblk m c 3 t) (iblk m c 4 t) (iblk m c 5 t) (iblk m c 6 t)) e)).trans (out8_apply (given m c t) y0 y1)

theorem arr9 (c : Dev nD) : (dats m 0 c).arrAt 9 cfg0.N = fun i => (args m c).codes (i 0) (i 1) (i 2) := by
  refine (dats m 0 c).arrAt_eq_of_covers 9 _ (by decide +kernel) fun t hf y => ?_
  let y0 : Fin 2 := y 0
  let y1 : Fin 448 := y 1
  let y2 : Fin 15360 := y 2
  have e : y = ix3 y0 y1 y2 := by funext a; match a with | ⟨0, _⟩ => rfl | ⟨1, _⟩ => rfl | ⟨2, _⟩ => rfl
  have e0 : (win0_9.blk t).view.emb y 0 = y0 := Fin.ext (by blk_simp [idx t]; show _ = (y 0).val; omega)
  have e1 : (win0_9.blk t).view.emb y 1 = y1 := Fin.ext (by blk_simp [idx t]; show _ = (y 1).val; omega)
  have e2 : (win0_9.blk t).view.emb y 2 = y2 := Fin.ext (by blk_simp [idx t]; show _ = (y 2).val; omega)
  blk_simp
  rw [e0, e1, e2]
  exact ((congrFun (after0_9 m c t) y).trans (congrArg (out0_9 (iblk m c 0 t) (iblk m c 1 t) (iblk m c 2 t) (iblk m c 3 t) (iblk m c 4 t) (iblk m c 5 t) (iblk m c 6 t)) e)).trans (out9_apply (given m c t) y0 y1 y2)

theorem arr10 (c : Dev nD) : (dats m 0 c).arrAt 10 cfg0.N = fun i => (args m c).scales (i 0) (i 1) (i 2) := by
  refine (dats m 0 c).arrAt_eq_of_covers 10 _ (by decide +kernel) fun t hf y => ?_
  let y0 : Fin 2 := y 0
  let y1 : Fin 14 := y 1
  let y2 : Fin 15360 := y 2
  have e : y = ix3 y0 y1 y2 := by funext a; match a with | ⟨0, _⟩ => rfl | ⟨1, _⟩ => rfl | ⟨2, _⟩ => rfl
  have e0 : (win0_10.blk t).view.emb y 0 = y0 := Fin.ext (by blk_simp [idx t]; show _ = (y 0).val; omega)
  have e1 : (win0_10.blk t).view.emb y 1 = y1 := Fin.ext (by blk_simp [idx t]; show _ = (y 1).val; omega)
  have e2 : (win0_10.blk t).view.emb y 2 = y2 := Fin.ext (by blk_simp [idx t]; show _ = (y 2).val; omega)
  blk_simp
  rw [e0, e1, e2]
  exact ((congrFun (after0_10 m c t) y).trans (congrArg (out0_10 (iblk m c 0 t) (iblk m c 1 t) (iblk m c 2 t) (iblk m c 3 t) (iblk m c 4 t) (iblk m c 5 t) (iblk m c 6 t)) e)).trans (out10_apply (given m c t) y0 y1 y2)

/-- The reference's four results, in terms of its arrays. -/
def Holds (m' : (ℓ : Loc nD τ sig) → Buf (Elt Ideal) ℓ) (c : Dev nD) : Prop :=
  (m' ((c : Thread nD τ).loc main_v40_0) = fun i => (args m c).dx (i 0) (i 1)) ∧
  (m' ((c : Thread nD τ).loc main_v40_1) = fun i => (args m c).dg (i 0) (i 1)) ∧
  (m' ((c : Thread nD τ).loc main_v40_2) = fun i => (args m c).codes (i 0) (i 1) (i 2)) ∧
  (m' ((c : Thread nD τ).loc main_v40_3) = fun i => (args m c).scales (i 0) (i 1) (i 2))

/-- Every execution of the reference ends with the four results as stated. -/
theorem run : θ_run defs (onTc (τ := τ) (main (F := Ideal))) ⟨m, fun _ => 0, ρ⟩ (fun r => ∀ c, Holds m r.2.mem c) :=
  (θ_run defs _ _).mono (fun _ h c =>
    ⟨((h c).1 7).trans (arr7 m c), ((h c).1 8).trans (arr8 m c), ((h c).1 9).trans (arr9 m c), ((h c).1 10).trans (arr10 m c)⟩) (run_main m ρ)

end Cert.RefValue

end
-- ==== Proof.lean ====
/- The proof of the certificate's claim: three frames, the idealization ledger of the kernel and the equality of the results. -/
module

public import proofs.«01_k».proof.Defs
public import proofs.«01_k».proof.Proof.Gen.Kernel
public import proofs.«01_k».proof.Proof.KernelFrame
public import proofs.«01_k».proof.Proof.Gen.KernelIdeal
public import proofs.«01_k».proof.Proof.IdealFrame
public import proofs.«01_k».proof.Proof.Gen.ReferenceIdeal
public import proofs.«01_k».proof.Proof.RefResults
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- Every rewrite the idealization of the kernel made is one its rule states. -/
theorem ledger : Cert.preserves_Kernel_KernelIdeal :=
  ⟨IdealRules.bf16_pair.bufferStatement _ _, IdealRules.bf16_pair.bufferStatement _ _,
    IdealRules.bf16_pair.statement _ _, IdealRules.bf16_pair.statement _ _,
    IdealRules.bf16_pair.statement _ _, IdealRules.bf16_pair.statement _ _,
    IdealRules.bf16_pair.statement _ _, IdealRules.bf16_pair.statement _ _,
    IdealRules.bf16_pair.statement _ _, IdealRules.bf16_pair.statement _ _,
    IdealRules.bf16_pair.statement _ _, IdealRules.bf16_pair.statement _ _⟩

/-- Two launches whose arrays agree have the same arrays entry by entry. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.RefValue.args m' c = Cert.Value.args m c := by
  unfold Cert.RefValue.args Cert.Value.args
  congr 1
  · exact funext fun b => funext fun s => funext fun d => congrFun h0 (ix3 b s d)
  · exact funext fun b => funext fun s => funext fun d => congrFun h1 (ix3 b s d)
  · exact funext fun k => funext fun d => congrFun h2 (ix2 k d)
  · exact funext fun k => funext fun d => congrFun h3 (ix2 k d)
  · exact funext fun k => congrFun h4 (ix1 k)
  · exact funext fun b => funext fun s => congrFun h5 (ix2 b s)
  · exact funext fun b => funext fun s => funext fun d => congrFun h6 (ix3 b s d)
  · exact funext fun b => funext fun s => funext fun d => congrFun h7 (ix3 b s d)

/-- From arrays that agree, the kernel and the reference over the extended reals end with the same four results and with their arrays unchanged. -/
theorem equal : Cert.algebraic_KernelIdeal_ReferenceIdeal := by
  intro m g m' g' _ hm
  have hA : ∀ c, Cert.RefValue.args m' c = Cert.Value.args m c := fun c =>
    args_eq m m' c (hm c).1 (hm c).2.1 (hm c).2.2.1 (hm c).2.2.2.1 (hm c).2.2.2.2.1 (hm c).2.2.2.2.2.1 (hm c).2.2.2.2.2.2.1 (hm c).2.2.2.2.2.2.2
  refine ⟨fun c i => (Cert.Value.args m c).dx (i 0) (i 1), fun c i => (Cert.Value.args m c).dg (i 0) (i 1),
    fun c i => (Cert.Value.args m c).codes (i 0) (i 1) (i 2), fun c i => (Cert.Value.args m c).scales (i 0) (i 1) (i 2), ?_, ?_⟩
  · refine (θ_run _ _ _).mono (fun r h c => ?_) (Cert.Value.results m g)
    exact ⟨(h c).1.1, (h c).1.2.1, (h c).1.2.2.1, (h c).1.2.2.2, (h c).2⟩
  · refine (θ_run _ _ _).mono (fun r h c => ?_) (θ_run_and (Cert.RefValue.run m' g') (Cert.ReferenceIdeal.Gen.frame m' g'))
    have hr := h.1 c
    unfold Cert.RefValue.Holds at hr
    rw [hA c] at hr
    exact ⟨hr.1, hr.2.1, hr.2.2.1, hr.2.2.2, h.2.1 c⟩

/-- The frames, the ledger and the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.Value.frame m ρ,
    fun m ρ _ => Cert.ReferenceIdeal.Gen.frame m ρ, ledger, equal⟩

end Cert.Proof

end
